-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)) (v2 : (c : Dev Cert.Kernel2Ideal.nD) → Buf (Elt Ideal) ((c.tc : Thread Cert.Kernel2Ideal.nD Cert.Kernel2Ideal.τ).loc Cert.Kernel2Ideal.main_v47_2)) (v3 : (c : Dev Cert.Kernel2Ideal.nD) → Buf (Elt Ideal) ((c.tc : Thread Cert.Kernel2Ideal.nD Cert.Kernel2Ideal.τ).loc Cert.Kernel2Ideal.main_v47_3)) (v4 : (c : Dev Cert.Kernel2Ideal.nD) → Buf (Elt Ideal) ((c.tc : Thread Cert.Kernel2Ideal.nD Cert.Kernel2Ideal.τ).loc Cert.Kernel2Ideal.main_v47_4)) (v5 : (c : Dev Cert.Kernel2Ideal.nD) → Buf (Elt Ideal) ((c.tc : Thread Cert.Kernel2Ideal.nD Cert.Kernel2Ideal.τ).loc Cert.Kernel2Ideal.main_v47_5)) (v6 : (c : Dev Cert.Kernel2Ideal.nD) → Buf (Elt Ideal) ((c.tc : Thread Cert.Kernel2Ideal.nD Cert.Kernel2Ideal.τ).loc Cert.Kernel2Ideal.main_v47_6)) (v7 : (c : Dev Cert.Kernel2Ideal.nD) → Buf (Elt Ideal) ((c.tc : Thread Cert.Kernel2Ideal.nD Cert.Kernel2Ideal.τ).loc Cert.Kernel2Ideal.main_v47_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_v47_1) = v1 c
          ∧ r.2.mem ((c.tc : Thread Cert.Kernel2Ideal.nD Cert.Kernel2Ideal.τ).loc Cert.Kernel2Ideal.main_v47_2) = v2 c
          ∧ r.2.mem ((c.tc : Thread Cert.Kernel2Ideal.nD Cert.Kernel2Ideal.τ).loc Cert.Kernel2Ideal.main_v47_3) = v3 c
          ∧ r.2.mem ((c.tc : Thread Cert.Kernel2Ideal.nD Cert.Kernel2Ideal.τ).loc Cert.Kernel2Ideal.main_v47_4) = v4 c
          ∧ r.2.mem ((c.tc : Thread Cert.Kernel2Ideal.nD Cert.Kernel2Ideal.τ).loc Cert.Kernel2Ideal.main_v47_5) = v5 c
          ∧ r.2.mem ((c.tc : Thread Cert.Kernel2Ideal.nD Cert.Kernel2Ideal.τ).loc Cert.Kernel2Ideal.main_v47_6) = v6 c
          ∧ r.2.mem ((c.tc : Thread Cert.Kernel2Ideal.nD Cert.Kernel2Ideal.τ).loc Cert.Kernel2Ideal.main_v47_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v160) = v0 c
          ∧ r.2.mem ((c.tc : Thread Cert.Reference2Ideal.nD Cert.Reference2Ideal.τ).loc Cert.Reference2Ideal.main_v161) = v1 c
          ∧ r.2.mem ((c.tc : Thread Cert.Reference2Ideal.nD Cert.Reference2Ideal.τ).loc Cert.Reference2Ideal.main_v164) = v2 c
          ∧ r.2.mem ((c.tc : Thread Cert.Reference2Ideal.nD Cert.Reference2Ideal.τ).loc Cert.Reference2Ideal.main_v166) = v3 c
          ∧ r.2.mem ((c.tc : Thread Cert.Reference2Ideal.nD Cert.Reference2Ideal.τ).loc Cert.Reference2Ideal.main_v167) = v4 c
          ∧ r.2.mem ((c.tc : Thread Cert.Reference2Ideal.nD Cert.Reference2Ideal.τ).loc Cert.Reference2Ideal.main_v168) = v5 c
          ∧ r.2.mem ((c.tc : Thread Cert.Reference2Ideal.nD Cert.Reference2Ideal.τ).loc Cert.Reference2Ideal.main_v170) = v6 c
          ∧ r.2.mem ((c.tc : Thread Cert.Reference2Ideal.nD Cert.Reference2Ideal.τ).loc Cert.Reference2Ideal.main_v172) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x4096x1024 : Shape := ⟨3, ![4, 4096, 1024]⟩
abbrev S4x4096x512 : Shape := ⟨3, ![4, 4096, 512]⟩
abbrev S4x4096x2x1024 : Shape := ⟨4, ![4, 4096, 2, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S16384x1024 : Shape := ⟨2, ![16384, 1024]⟩
abbrev S4x512x4096 : Shape := ⟨3, ![4, 512, 4096]⟩
abbrev S16384x512 : Shape := ⟨2, ![16384, 512]⟩
abbrev S16384x2048 : Shape := ⟨2, ![16384, 2048]⟩
abbrev S1x1024 : Shape := ⟨2, ![1, 1024]⟩
abbrev S512x1024 : Shape := ⟨2, ![512, 1024]⟩
abbrev S1x512x512 : Shape := ⟨3, ![1, 512, 512]⟩
abbrev S512x512 : Shape := ⟨2, ![512, 512]⟩
abbrev S512x2048 : Shape := ⟨2, ![512, 2048]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩
abbrev S1024x4096 : Shape := ⟨2, ![1024, 4096]⟩
abbrev S4096x1024 : Shape := ⟨2, ![4096, 1024]⟩

abbrev nBuf : Space → Nat
  | .hbm => 28
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x2x1024, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1024, .f32⟩
  | .hbm, ⟨11, _⟩ => ⟨S16384x1024, .f32⟩
  | .hbm, ⟨12, _⟩ => ⟨S4x512x4096, .f32⟩
  | .hbm, ⟨13, _⟩ => ⟨S4x512x4096, .bf16⟩
  | .hbm, ⟨14, _⟩ => ⟨S16384x512, .f32⟩
  | .hbm, ⟨15, _⟩ => ⟨S16384x512, .bf16⟩
  | .hbm, ⟨16, _⟩ => ⟨S16384x2048, .f32⟩
  | .hbm, ⟨17, _⟩ => ⟨S16384x2048, .bf16⟩
  | .hbm, ⟨18, _⟩ => ⟨S2x512x1024, .bf16⟩
  | .hbm, ⟨19, _⟩ => ⟨S2x512x1024, .bf16⟩
  | .hbm, ⟨20, _⟩ => ⟨S2x1024x1024, .bf16⟩
  | .hbm, ⟨21, _⟩ => ⟨S2x1024x4096, .bf16⟩
  | .hbm, ⟨22, _⟩ => ⟨S2x4096x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .bf16⟩
  | .local _ .vmem, ⟨3, _⟩ => ⟨S1x512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1x1024x4096, .bf16⟩
  | .local _ .vmem, ⟨12, _⟩ => ⟨S1x4096x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x4096x1024 : Shape := ⟨3, ![4, 4096, 1024]⟩
abbrev S4x4096x512 : Shape := ⟨3, ![4, 4096, 512]⟩
abbrev S4x4096x2x1024 : Shape := ⟨4, ![4, 4096, 2, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x512x1024 : Shape := ⟨3, ![1, 512, 1024]⟩
abbrev S512x1024 : Shape := ⟨2, ![512, 1024]⟩
abbrev S4x4096x1x1024 : Shape := ⟨4, ![4, 4096, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x2x1024, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1024, .f32⟩
  | .hbm, ⟨11, _⟩ => ⟨S1x512x1024, .f32⟩
  | .hbm, ⟨12, _⟩ => ⟨S512x1024, .f32⟩
  | .hbm, ⟨13, _⟩ => ⟨S4x4096x1024, .f32⟩
  | .hbm, ⟨14, _⟩ => ⟨S1x512x1024, .f32⟩
  | .hbm, ⟨15, _⟩ => ⟨S512x1024, .f32⟩
  | .hbm, ⟨16, _⟩ => ⟨S4x4096x1024, .f32⟩
  | .hbm, ⟨17, _⟩ => ⟨S4x4096x1x1024, .f32⟩
  | .hbm, ⟨18, _⟩ => ⟨S4x4096x1024, .f32⟩
  | .hbm, ⟨19, _⟩ => ⟨S4x4096x1024, .f32⟩
  | .hbm, ⟨20, _⟩ => ⟨S4x4096x1x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S1x1024x1024, .f32⟩
  | .hbm, ⟨25, _⟩ => ⟨S1024x1024, .f32⟩
  | .hbm, ⟨26, _⟩ => ⟨S4x4096x1024, .f32⟩
  | .hbm, ⟨27, _⟩ => ⟨S4x4096x1024, .f32⟩
  | .hbm, ⟨28, _⟩ => ⟨S1x1024, .f32⟩
  | .hbm, ⟨29, _⟩ => ⟨S1024, .f32⟩
  | .hbm, ⟨30, _⟩ => ⟨S4x4096x1024, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | .hbm, ⟨46, _⟩ => ⟨S1x1024x4096, .f32⟩
  | .hbm, ⟨47, _⟩ => ⟨S1024x4096, .f32⟩
  | .hbm, ⟨48, _⟩ => ⟨S4x4096x4096, .f32⟩
  | .hbm, ⟨49, _⟩ => ⟨S_, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S1x4096x1024, .f32⟩
  | .hbm, ⟨54, _⟩ => ⟨S4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x1, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | .hbm, ⟨73, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel2.lean ====
abbrev S4x4096x1024 : Shape := ⟨3, ![4, 4096, 1024]⟩
abbrev S2x1024 : Shape := ⟨2, ![2, 1024]⟩
abbrev S2x1024x5444 : Shape := ⟨3, ![2, 1024, 5444]⟩
abbrev S2x3x512 : Shape := ⟨3, ![2, 3, 512]⟩
abbrev S128 : Shape := ⟨1, ![128]⟩
abbrev S8 : Shape := ⟨1, ![8]⟩
abbrev S_ : Shape := ⟨0, ![]⟩
abbrev S4096 : Shape := ⟨1, ![4096]⟩
abbrev S4096x1 : Shape := ⟨2, ![4096, 1]⟩
abbrev S128x1 : Shape := ⟨2, ![128, 1]⟩
abbrev S1x128 : Shape := ⟨2, ![1, 128]⟩
abbrev S4096x128 : Shape := ⟨2, ![4096, 128]⟩
abbrev S16384x1024 : Shape := ⟨2, ![16384, 1024]⟩
abbrev S2x5444x1024 : Shape := ⟨3, ![2, 5444, 1024]⟩
abbrev S1x1024 : Shape := ⟨2, ![1, 1024]⟩
abbrev S1024 : Shape := ⟨1, ![1024]⟩
abbrev S1x5444x1024 : Shape := ⟨3, ![1, 5444, 1024]⟩
abbrev S5444x1024 : Shape := ⟨2, ![5444, 1024]⟩
abbrev S1856x1024 : Shape := ⟨2, ![1856, 1024]⟩
abbrev S32x1024 : Shape := ⟨2, ![32, 1024]⟩
abbrev S4x1024 : Shape := ⟨2, ![4, 1024]⟩
abbrev S156x1024 : Shape := ⟨2, ![156, 1024]⟩
abbrev S3584x1024 : Shape := ⟨2, ![3584, 1024]⟩
abbrev S5632x1024 : Shape := ⟨2, ![5632, 1024]⟩
abbrev S1x3x512 : Shape := ⟨3, ![1, 3, 512]⟩
abbrev S3x512 : Shape := ⟨2, ![3, 512]⟩
abbrev S4x512x4096 : Shape := ⟨3, ![4, 512, 4096]⟩
abbrev S4x4096x512 : Shape := ⟨3, ![4, 4096, 512]⟩
abbrev S4x16x512x256 : Shape := ⟨4, ![4, 16, 512, 256]⟩
abbrev S4x256x4096 : Shape := ⟨3, ![4, 256, 4096]⟩
abbrev S4x4096x128 : Shape := ⟨3, ![4, 4096, 128]⟩
abbrev S4x128x4096 : Shape := ⟨3, ![4, 128, 4096]⟩
abbrev S16384x512 : Shape := ⟨2, ![16384, 512]⟩
abbrev S16384x2048 : Shape := ⟨2, ![16384, 2048]⟩
abbrev S1024x1024 : Shape := ⟨2, ![1024, 1024]⟩
abbrev S1024x128 : Shape := ⟨2, ![1024, 128]⟩
abbrev S1x512x1024 : Shape := ⟨3, ![1, 512, 1024]⟩
abbrev S1x1024x512 : Shape := ⟨3, ![1, 1024, 512]⟩
abbrev S1x4x512x256 : Shape := ⟨4, ![1, 4, 512, 256]⟩
abbrev S1x256x1024 : Shape := ⟨3, ![1, 256, 1024]⟩
abbrev S1x1024x128 : Shape := ⟨3, ![1, 1024, 128]⟩
abbrev S1x128x1024 : Shape := ⟨3, ![1, 128, 1024]⟩
abbrev S1024x512 : Shape := ⟨2, ![1024, 512]⟩
abbrev S1024x2048 : Shape := ⟨2, ![1024, 2048]⟩
abbrev S1032x512 : Shape := ⟨2, ![1032, 512]⟩
abbrev S1024x1 : Shape := ⟨2, ![1024, 1]⟩
abbrev S512x1024 : Shape := ⟨2, ![512, 1024]⟩
abbrev S512x256 : Shape := ⟨2, ![512, 256]⟩
abbrev S1x1x512x256 : Shape := ⟨4, ![1, 1, 512, 256]⟩
abbrev S256x1024 : Shape := ⟨2, ![256, 1024]⟩
abbrev S1024x256 : Shape := ⟨2, ![1024, 256]⟩
abbrev S128x1024 : Shape := ⟨2, ![128, 1024]⟩
abbrev S8x512 : Shape := ⟨2, ![8, 512]⟩
abbrev S1x512 : Shape := ⟨2, ![1, 512]⟩

abbrev nBuf : Space → Nat
  | .hbm => 83
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x5444, .f32⟩
  | .hbm, ⟨3, _⟩ => ⟨S2x3x512, .f32⟩
  | .hbm, ⟨4, _⟩ => ⟨S128, .i32⟩
  | .hbm, ⟨5, _⟩ => ⟨S128, .i1⟩
  | .hbm, ⟨6, _⟩ => ⟨S128, .i1⟩
  | .hbm, ⟨7, _⟩ => ⟨S128, .i1⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S4096, .f32⟩
  | .hbm, ⟨25, _⟩ => ⟨S4096x1, .f32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S128, .f32⟩
  | .hbm, ⟨32, _⟩ => ⟨S1x128, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S1x128, .i1⟩
  | .hbm, ⟨39, _⟩ => ⟨S1x128, .i1⟩
  | .hbm, ⟨40, _⟩ => ⟨S1x128, .i1⟩
  | .hbm, ⟨41, _⟩ => ⟨S_, .f32⟩
  | .hbm, ⟨42, _⟩ => ⟨S_, .f32⟩
  | .hbm, ⟨43, _⟩ => ⟨S4096x128, .i1⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S_, .f32⟩
  | .hbm, ⟨48, _⟩ => ⟨S_, .f32⟩
  | .hbm, ⟨49, _⟩ => ⟨S4096x128, .i1⟩
  | .hbm, ⟨50, _⟩ => ⟨S4096x128, .f32⟩
  | .hbm, ⟨51, _⟩ => ⟨S4096x128, .f32⟩
  | .hbm, ⟨52, _⟩ => ⟨S_, .f32⟩
  | .hbm, ⟨53, _⟩ => ⟨S_, .f32⟩
  | .hbm, ⟨54, _⟩ => ⟨S4096x128, .i1⟩
  | .hbm, ⟨55, _⟩ => ⟨S4096x128, .f32⟩
  | .hbm, ⟨56, _⟩ => ⟨S4096x128, .f32⟩
  | .hbm, ⟨57, _⟩ => ⟨S16384x1024, .f32⟩
  | .hbm, ⟨58, _⟩ => ⟨S2x5444x1024, .f32⟩
  | .hbm, ⟨59, _⟩ => ⟨S2x5444x1024, .bf16⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S1x5444x1024, .bf16⟩
  | .hbm, ⟨64, _⟩ => ⟨S5444x1024, .bf16⟩
  | .hbm, ⟨65, _⟩ => ⟨S1856x1024, .bf16⟩
  | .hbm, ⟨66, _⟩ => ⟨S_, .bf16⟩
  | .hbm, ⟨67, _⟩ => ⟨S32x1024, .bf16⟩
  | .hbm, ⟨68, _⟩ => ⟨S4x1024, .bf16⟩
  | .hbm, ⟨69, _⟩ => ⟨S_, .bf16⟩
  | .hbm, ⟨70, _⟩ => ⟨S156x1024, .bf16⟩
  | .hbm, ⟨71, _⟩ => ⟨S3584x1024, .bf16⟩
  | .hbm, ⟨72, _⟩ => ⟨S5632x1024, .bf16⟩
  | .hbm, ⟨73, _⟩ => ⟨S1x3x512, .f32⟩
  | .hbm, ⟨74, _⟩ => ⟨S3x512, .f32⟩
  | .hbm, ⟨75, _⟩ => ⟨S4x512x4096, .bf16⟩
  | .hbm, ⟨76, _⟩ => ⟨S4x4096x512, .bf16⟩
  | .hbm, ⟨77, _⟩ => ⟨S4x16x512x256, .bf16⟩
  | .hbm, ⟨78, _⟩ => ⟨S4x256x4096, .bf16⟩
  | .hbm, ⟨79, _⟩ => ⟨S4x4096x128, .bf16⟩
  | .hbm, ⟨80, _⟩ => ⟨S4x128x4096, .f32⟩
  | .hbm, ⟨81, _⟩ => ⟨S16384x512, .bf16⟩
  | .hbm, ⟨82, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S5632x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S3x512, .f32⟩
  | .local _ .vmem, ⟨11, _⟩ => ⟨S1x512x1024, .bf16⟩
  | .local _ .vmem, ⟨12, _⟩ => ⟨S1x512x1024, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x4x512x256, .bf16⟩
  | .local _ .vmem, ⟨16, _⟩ => ⟨S1x4x512x256, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x1024x128, .bf16⟩
  | .local _ .vmem, ⟨20, _⟩ => ⟨S1x1024x128, .bf16⟩
  | .local _ .vmem, ⟨21, _⟩ => ⟨S1x128x1024, .f32⟩
  | .local _ .vmem, ⟨22, _⟩ => ⟨S1x128x1024, .f32⟩
  | .local _ .vmem, ⟨23, _⟩ => ⟨S1024x512, .bf16⟩
  | .local _ .vmem, ⟨24, _⟩ => ⟨S1024x512, .bf16⟩
  | .local _ .vmem, ⟨25, _⟩ => ⟨S1024x2048, .bf16⟩
  | .local _ .vmem, ⟨26, _⟩ => ⟨S1024x2048, .bf16⟩
  | .local _ .vmem, ⟨27, _⟩ => ⟨S1032x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_3 : Ref sig .tc := ⟨.hbm, 12, rfl⟩
abbrev main_v3 : Ref sig .tc := ⟨.hbm, 13, rfl⟩
abbrev main_v4 : Ref sig .tc := ⟨.hbm, 14, rfl⟩
abbrev main_cst_4 : Ref sig .tc := ⟨.hbm, 15, rfl⟩
abbrev main_v5 : Ref sig .tc := ⟨.hbm, 16, rfl⟩
abbrev main_v6 : Ref sig .tc := ⟨.hbm, 17, rfl⟩
abbrev main_cst_5 : Ref sig .tc := ⟨.hbm, 18, rfl⟩
abbrev main_v7 : Ref sig .tc := ⟨.hbm, 19, rfl⟩
abbrev main_v8 : Ref sig .tc := ⟨.hbm, 20, rfl⟩
abbrev main_cst_6 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_7 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_cst_10 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_11 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev main_v47_3 : Ref sig .tc := ⟨.hbm, 78, rfl⟩
abbrev main_v47_4 : Ref sig .tc := ⟨.hbm, 79, rfl⟩
abbrev main_v47_5 : Ref sig .tc := ⟨.hbm, 80, rfl⟩
abbrev main_v47_6 : Ref sig .tc := ⟨.hbm, 81, rfl⟩
abbrev main_v47_7 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S4x4096x1024 : Shape := ⟨3, ![4, 4096, 1024]⟩
abbrev S2x1024 : Shape := ⟨2, ![2, 1024]⟩
abbrev S2x1024x5444 : Shape := ⟨3, ![2, 1024, 5444]⟩
abbrev S2x3x512 : Shape := ⟨3, ![2, 3, 512]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5444 : Shape := ⟨3, ![1, 1024, 5444]⟩
abbrev S1024x5444 : Shape := ⟨2, ![1024, 5444]⟩
abbrev S4x4096x5444 : Shape := ⟨3, ![4, 4096, 5444]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x4 : Shape := ⟨3, ![4, 4096, 4]⟩
abbrev S4x4096x2048 : Shape := ⟨3, ![4, 4096, 2048]⟩
abbrev S4x4096x8x64 : Shape := ⟨4, ![4, 4096, 8, 64]⟩
abbrev S4x4096x8x8 : Shape := ⟨4, ![4, 4096, 8, 8]⟩
abbrev S1x4096x1x8 : Shape := ⟨4, ![1, 4096, 1, 8]⟩
abbrev S4x4096x8x16 : Shape := ⟨4, ![4, 4096, 8, 16]⟩
abbrev S4x4096x8x48 : Shape := ⟨4, ![4, 4096, 8, 48]⟩
abbrev S4x4096x4x64 : Shape := ⟨4, ![4, 4096, 4, 64]⟩
abbrev S4x4096x4x8 : Shape := ⟨4, ![4, 4096, 4, 8]⟩
abbrev S4x4096x4x16 : Shape := ⟨4, ![4, 4096, 4, 16]⟩
abbrev S4x4096x4x48 : Shape := ⟨4, ![4, 4096, 4, 48]⟩
abbrev S4x4096x1x64 : Shape := ⟨4, ![4, 4096, 1, 64]⟩
abbrev S4x4096x1x8 : Shape := ⟨4, ![4, 4096, 1, 8]⟩
abbrev S4x4096x1x16 : Shape := ⟨4, ![4, 4096, 1, 16]⟩
abbrev S4x4096x1x48 : Shape := ⟨4, ![4, 4096, 1, 48]⟩
abbrev S1x3x512 : Shape := ⟨3, ![1, 3, 512]⟩
abbrev S3x512 : Shape := ⟨2, ![3, 512]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S4x4096x32 : Shape := ⟨3, ![4, 4096, 32]⟩
abbrev S4x4096x28 : Shape := ⟨3, ![4, 4096, 28]⟩
abbrev S4x4096x128 : Shape := ⟨3, ![4, 4096, 128]⟩
abbrev S4x512x4096 : Shape := ⟨3, ![4, 512, 4096]⟩
abbrev S4x16x256x512 : Shape := ⟨4, ![4, 16, 256, 512]⟩
abbrev S4x16x512x256 : Shape := ⟨4, ![4, 16, 512, 256]⟩
abbrev S4x256x4096 : Shape := ⟨3, ![4, 256, 4096]⟩
abbrev S4x128x4096 : Shape := ⟨3, ![4, 128, 4096]⟩
abbrev S16384x512 : Shape := ⟨2, ![16384, 512]⟩
abbrev S16384x2048 : Shape := ⟨2, ![16384, 2048]⟩

abbrev nBuf : Space → Nat
  | .hbm => 192
  | .vmem => 0
  | .smem => 0
  | _ => 0

abbrev hbmTy0_0 (i : Nat) : BufTy := match i % 128 with
  | 0 => ⟨S4x4096x1024, .f32⟩
  | 1 => ⟨S2x1024, .f32⟩
  | 2 => ⟨S2x1024x5444, .f32⟩
  | 3 => ⟨S2x3x512, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4096, .f32⟩
  | 21 => ⟨S4096x1, .f32⟩
  | 22 => ⟨S1x8, .f32⟩
  | 23 => ⟨S4096x8, .f32⟩
  | 24 => ⟨S4096x8, .f32⟩
  | 25 => ⟨S4096x8, .f32⟩
  | 26 => ⟨S4096x8, .f32⟩
  | 27 => ⟨S4096x8, .f32⟩
  | 28 => ⟨S1x1024, .f32⟩
  | 29 => ⟨S1024, .f32⟩
  | 30 => ⟨S4x4096x1024, .f32⟩
  | 31 => ⟨S_, .f32⟩
  | 32 => ⟨S4x4096, .f32⟩
  | 33 => ⟨S4x4096x1, .f32⟩
  | 34 => ⟨S_, .f32⟩
  | 35 => ⟨S4x4096x1, .f32⟩
  | 36 => ⟨S4x4096x1, .f32⟩
  | 37 => ⟨S_, .f32⟩
  | 38 => ⟨S4x4096x1, .f32⟩
  | 39 => ⟨S4x4096x1, .f32⟩
  | 40 => ⟨S4x4096x1, .f32⟩
  | 41 => ⟨S4x4096x1024, .f32⟩
  | 42 => ⟨S4x4096x1024, .f32⟩
  | 43 => ⟨S1x1x1024, .f32⟩
  | 44 => ⟨S4x4096x1024, .f32⟩
  | 45 => ⟨S4x4096x1024, .f32⟩
  | 46 => ⟨S1x1024x5444, .f32⟩
  | 47 => ⟨S1024x5444, .f32⟩
  | 48 => ⟨S4x4096x5444, .f32⟩
  | 49 => ⟨S4x4096x512, .f32⟩
  | 50 => ⟨S4x4096x512, .f32⟩
  | 51 => ⟨S4x4096x512, .f32⟩
  | 52 => ⟨S4x4096x256, .f32⟩
  | 53 => ⟨S4x4096x64, .f32⟩
  | 54 => ⟨S4x4096x4, .f32⟩
  | 55 => ⟨S4x4096x512, .f32⟩
  | 56 => ⟨S4x4096x512, .f32⟩
  | 57 => ⟨S4x4096x512, .f32⟩
  | 58 => ⟨S4x4096x2048, .f32⟩
  | 59 => ⟨S4x4096x8x64, .f32⟩
  | 60 => ⟨S4x4096x8x8, .f32⟩
  | 61 => ⟨S4x4096x8x8, .f32⟩
  | 62 => ⟨S1x4096x1x8, .f32⟩
  | 63 => ⟨S1x4096x1x8, .f32⟩
  | 64 => ⟨S4x4096x8x8, .f32⟩
  | 65 => ⟨S4x4096x8x8, .f32⟩
  | 66 => ⟨S4x4096x8x8, .f32⟩
  | 67 => ⟨S4x4096x8x8, .f32⟩
  | 68 => ⟨S4x4096x8x8, .f32⟩
  | 69 => ⟨S4x4096x8x8, .f32⟩
  | 70 => ⟨S4x4096x8x8, .f32⟩
  | 71 => ⟨S4x4096x8x8, .f32⟩
  | 72 => ⟨S4x4096x8x8, .f32⟩
  | 73 => ⟨S4x4096x8x8, .f32⟩
  | 74 => ⟨S4x4096x8x16, .f32⟩
  | 75 => ⟨S4x4096x8x48, .f32⟩
  | 76 => ⟨S4x4096x8x64, .f32⟩
  | 77 => ⟨S4x4096x512, .f32⟩
  | 78 => ⟨S4x4096x8x64, .f32⟩
  | 79 => ⟨S4x4096x8x8, .f32⟩
  | 80 => ⟨S4x4096x8x8, .f32⟩
  | 81 => ⟨S1x4096x1x8, .f32⟩
  | 82 => ⟨S1x4096x1x8, .f32⟩
  | 83 => ⟨S4x4096x8x8, .f32⟩
  | 84 => ⟨S4x4096x8x8, .f32⟩
  | 85 => ⟨S4x4096x8x8, .f32⟩
  | 86 => ⟨S4x4096x8x8, .f32⟩
  | 87 => ⟨S4x4096x8x8, .f32⟩
  | 88 => ⟨S4x4096x8x8, .f32⟩
  | 89 => ⟨S4x4096x8x8, .f32⟩
  | 90 => ⟨S4x4096x8x8, .f32⟩
  | 91 => ⟨S4x4096x8x8, .f32⟩
  | 92 => ⟨S4x4096x8x8, .f32⟩
  | 93 => ⟨S4x4096x8x16, .f32⟩
  | 94 => ⟨S4x4096x8x48, .f32⟩
  | 95 => ⟨S4x4096x8x64, .f32⟩
  | 96 => ⟨S4x4096x512, .f32⟩
  | 97 => ⟨S4x4096x4x64, .f32⟩
  | 98 => ⟨S4x4096x4x8, .f32⟩
  | 99 => ⟨S4x4096x4x8, .f32⟩
  | 100 => ⟨S1x4096x1x8, .f32⟩
  | 101 => ⟨S1x4096x1x8, .f32⟩
  | 102 => ⟨S4x4096x4x8, .f32⟩
  | 103 => ⟨S4x4096x4x8, .f32⟩
  | 104 => ⟨S4x4096x4x8, .f32⟩
  | 105 => ⟨S4x4096x4x8, .f32⟩
  | 106 => ⟨S4x4096x4x8, .f32⟩
  | 107 => ⟨S4x4096x4x8, .f32⟩
  | 108 => ⟨S4x4096x4x8, .f32⟩
  | 109 => ⟨S4x4096x4x8, .f32⟩
  | 110 => ⟨S4x4096x4x8, .f32⟩
  | 111 => ⟨S4x4096x4x8, .f32⟩
  | 112 => ⟨S4x4096x4x16, .f32⟩
  | 113 => ⟨S4x4096x4x48, .f32⟩
  | 114 => ⟨S4x4096x4x64, .f32⟩
  | 115 => ⟨S4x4096x256, .f32⟩
  | 116 => ⟨S4x4096x1x64, .f32⟩
  | 117 => ⟨S4x4096x1x8, .f32⟩
  | 118 => ⟨S4x4096x1x8, .f32⟩
  | 119 => ⟨S1x4096x1x8, .f32⟩
  | 120 => ⟨S1x4096x1x8, .f32⟩
  | 121 => ⟨S4x4096x1x8, .f32⟩
  | 122 => ⟨S4x4096x1x8, .f32⟩
  | 123 => ⟨S4x4096x1x8, .f32⟩
  | 124 => ⟨S4x4096x1x8, .f32⟩
  | 125 => ⟨S4x4096x1x8, .f32⟩
  | 126 => ⟨S4x4096x1x8, .f32⟩
  | 127 => ⟨S4x4096x1x8, .f32⟩
  | _ => ⟨S4x4096x1024, .f32⟩

abbrev hbmTy0_1 (i : Nat) : BufTy := match i % 128 with
  | 0 => ⟨S4x4096x1x8, .f32⟩
  | 1 => ⟨S4x4096x1x8, .f32⟩
  | 2 => ⟨S4x4096x1x8, .f32⟩
  | 3 => ⟨S4x4096x1x16, .f32⟩
  | 4 => ⟨S4x4096x1x48, .f32⟩
  | 5 => ⟨S4x4096x1x64, .f32⟩
  | 6 => ⟨S4x4096x64, .f32⟩
  | 7 => ⟨S4x4096x512, .f32⟩
  | 8 => ⟨S1x3x512, .f32⟩
  | 9 => ⟨S3x512, .f32⟩
  | 10 => ⟨S_, .i32⟩
  | 11 => ⟨S_, .f32⟩
  | 12 => ⟨S4x4098x512, .f32⟩
  | 13 => ⟨S4x4096x512, .f32⟩
  | 14 => ⟨S1x512, .f32⟩
  | 15 => ⟨S512, .f32⟩
  | 16 => ⟨S1x1x512, .f32⟩
  | 17 => ⟨S4x4096x512, .f32⟩
  | 18 => ⟨S4x4096x512, .f32⟩
  | 19 => ⟨S4x4096x512, .f32⟩
  | 20 => ⟨S1x512, .f32⟩
  | 21 => ⟨S512, .f32⟩
  | 22 => ⟨S1x1x512, .f32⟩
  | 23 => ⟨S4x4096x512, .f32⟩
  | 24 => ⟨S4x4096x512, .f32⟩
  | 25 => ⟨S4x4096x512, .f32⟩
  | 26 => ⟨S4x4096x512, .f32⟩
  | 27 => ⟨S1x512, .f32⟩
  | 28 => ⟨S512, .f32⟩
  | 29 => ⟨S1x1x512, .f32⟩
  | 30 => ⟨S4x4096x512, .f32⟩
  | 31 => ⟨S4x4096x512, .f32⟩
  | 32 => ⟨S4x4096x512, .f32⟩
  | 33 => ⟨S4x4096x512, .f32⟩
  | 34 => ⟨S4x4096x2048, .f32⟩
  | 35 => ⟨S4x4096x2048, .f32⟩
  | 36 => ⟨S_, .f32⟩
  | 37 => ⟨S4x4096x2048, .f32⟩
  | 38 => ⟨S4x4096x2048, .f32⟩
  | 39 => ⟨S_, .f32⟩
  | 40 => ⟨S4x4096x2048, .f32⟩
  | 41 => ⟨S4x4096x2048, .f32⟩
  | 42 => ⟨S_, .f32⟩
  | 43 => ⟨S4x4096x512, .f32⟩
  | 44 => ⟨S4x4096x512, .f32⟩
  | 45 => ⟨S_, .f32⟩
  | 46 => ⟨S4x4096x32, .f32⟩
  | 47 => ⟨S_, .f32⟩
  | 48 => ⟨S4x4096x28, .f32⟩
  | 49 => ⟨S4x4096x128, .f32⟩
  | 50 => ⟨S4x512x4096, .f32⟩
  | 51 => ⟨S4x512x4096, .bf16⟩
  | 52 => ⟨S4x4096x512, .bf16⟩
  | 53 => ⟨S4x16x256x512, .f32⟩
  | 54 => ⟨S4x16x512x256, .f32⟩
  | 55 => ⟨S4x16x512x256, .bf16⟩
  | 56 => ⟨S4x256x4096, .f32⟩
  | 57 => ⟨S4x256x4096, .bf16⟩
  | 58 => ⟨S4x4096x128, .bf16⟩
  | 59 => ⟨S4x128x4096, .f32⟩
  | 60 => ⟨S16384x512, .f32⟩
  | 61 => ⟨S16384x512, .bf16⟩
  | 62 => ⟨S16384x2048, .f32⟩
  | 63 => ⟨S16384x2048, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_c : Ref sig .tc := ⟨.hbm, 138, rfl⟩
abbrev main_call0_v0 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_cst_7 : Ref sig .tc := ⟨.hbm, 164, rfl⟩
abbrev main_v150 : Ref sig .tc := ⟨.hbm, 165, rfl⟩
abbrev main_v151 : Ref sig .tc := ⟨.hbm, 166, rfl⟩
abbrev main_cst_8 : Ref sig .tc := ⟨.hbm, 167, rfl⟩
abbrev main_v152 : Ref sig .tc := ⟨.hbm, 168, rfl⟩
abbrev main_v153 : Ref sig .tc := ⟨.hbm, 169, rfl⟩
abbrev main_cst_9 : Ref sig .tc := ⟨.hbm, 170, rfl⟩
abbrev main_v154 : Ref sig .tc := ⟨.hbm, 171, rfl⟩
abbrev main_v155 : Ref sig .tc := ⟨.hbm, 172, rfl⟩
abbrev main_cst_10 : Ref sig .tc := ⟨.hbm, 173, rfl⟩
abbrev main_v156 : Ref sig .tc := ⟨.hbm, 174, rfl⟩
abbrev main_cst_11 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩

abbrev nD : Nat := 1
abbrev τ : Topo := Topo.v7x

variable {F : FTy → Type} [FloatOps F]
-- ==== Kernel3.lean ====
abbrev S2x1024x5444 : Shape := ⟨3, ![2, 1024, 5444]⟩
abbrev S2x5444x1024 : Shape := ⟨3, ![2, 5444, 1024]⟩
abbrev S5632x1024 : Shape := ⟨2, ![5632, 1024]⟩
abbrev S1x512x1024 : Shape := ⟨3, ![1, 512, 1024]⟩
abbrev S512x1024 : Shape := ⟨2, ![512, 1024]⟩
abbrev S16x1024 : Shape := ⟨2, ![16, 1024]⟩
abbrev S256x1024 : Shape := ⟨2, ![256, 1024]⟩
abbrev S64x1024 : Shape := ⟨2, ![64, 1024]⟩
abbrev S32x1024 : Shape := ⟨2, ![32, 1024]⟩
abbrev S144x1024 : Shape := ⟨2, ![144, 1024]⟩
abbrev S512x256 : Shape := ⟨2, ![512, 256]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S2x1024x5444, .f32⟩
  | .hbm, ⟨1, _⟩ => ⟨S2x5444x1024, .f32⟩
  | .hbm, ⟨2, _⟩ => ⟨S2x5444x1024, .bf16⟩
  | .hbm, ⟨3, _⟩ => ⟨S5632x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .bf16⟩
  | .local _ .vmem, ⟨5, _⟩ => ⟨S512x1024, .bf16⟩
  | _, _ => ⟨S2x1024x5444, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c3_i32 : BitVec 32 := 3#32
  let v0 : BitVec 1 := Scalar.cmpi .slt arg0 c3_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c3_i32_1 : BitVec 32 := 3#32
  let v3 : BitVec 1 := Scalar.cmpi .eq arg0 c3_i32_1
  let v4 : BitVec 32 := Scalar.extui v3
  let c0_i32_3 : BitVec 32 := 0#32
  let v5 : BitVec 1 := Scalar.cmpi .ne v4 c0_i32_3
  v5

def k0_cond3 (i : grid0.Coords) : BitVec 1 :=
  let arg0 : BitVec 32 := BitVec.ofNat 32 (i 0).val
  let c3_i32_4 : BitVec 32 := 3#32
  let v6 : BitVec 1 := Scalar.cmpi .sgt arg0 c3_i32_4
  let v7 : BitVec 32 := Scalar.extui v6
  let c0_i32_7 : BitVec 32 := 0#32
  let v8 : BitVec 1 := Scalar.cmpi .ne v7 c0_i32_7
  v8

def cc0_transform_0 (i : grid0.Coords) : Fin 3 → Nat :=
  let arg0 : BitVec 32 := BitVec.ofNat 32 (i 0).val
  let c3_i32 : BitVec 32 := 3#32
  let v0 : BitVec 1 := Scalar.cmpi .slt arg0 c3_i32
  let c3_i32_0 : BitVec 32 := 3#32
  let v1 : BitVec 1 := Scalar.cmpi .eq arg0 c3_i32_0
  let c4_i32 : BitVec 32 := 4#32
  let v2 : BitVec 32 := Scalar.subi arg0 c4_i32
  let c3_i32_1 : BitVec 32 := 3#32
  let v3 : BitVec 32 := Scalar.addi v2 c3_i32_1
  let c3_i32_2 : BitVec 32 := 3#32
  let v4 : BitVec 32 := Scalar.select v1 c3_i32_2 v3
  let v5 : BitVec 32 := Scalar.select v0 arg0 v4
  let c1_i32 : BitVec 32 := 1#32
  let c0_i32 : BitVec 32 := 0#32
  let c0_i32_3 : BitVec 32 := 0#32
  ![c1_i32.toNat, v5.toNat, c0_i32.toNat]

def cc0_transform_1 (i : grid0.Coords) : Fin 3 → Nat :=
  let arg0 : BitVec 32 := BitVec.ofNat 32 (i 0).val
  let c3_i32 : BitVec 32 := 3#32
  let v0 : BitVec 1 := Scalar.cmpi .sle arg0 c3_i32
  let c4_i32 : BitVec 32 := 4#32
  let v1 : BitVec 32 := Scalar.subi arg0 c4_i32
  let c3_i32_0 : BitVec 32 := 3#32
  let v2 : BitVec 32 := Scalar.addi v1 c3_i32_0
  let c1_i32 : BitVec 32 := 1#32
  let v3 : BitVec 32 := Scalar.addi v2 c1_i32
  let c0_i32 : BitVec 32 := 0#32
  let v4 : BitVec 32 := Scalar.select v0 c0_i32 v3
  let c1_i32_1 : BitVec 32 := 1#32
  let c0_i32_2 : BitVec 32 := 0#32
  let c0_i32_3 : BitVec 32 := 0#32
  ![c1_i32_1.toNat, v4.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2x1024x5444 : Shape := ⟨3, ![2, 1024, 5444]⟩
abbrev S1x1024x5444 : Shape := ⟨3, ![1, 1024, 5444]⟩
abbrev S1024x5444 : Shape := ⟨2, ![1024, 5444]⟩
abbrev S5444x1024 : Shape := ⟨2, ![5444, 1024]⟩
abbrev S512x1024 : Shape := ⟨2, ![512, 1024]⟩
abbrev S256x1024 : Shape := ⟨2, ![256, 1024]⟩
abbrev S64x1024 : Shape := ⟨2, ![64, 1024]⟩
abbrev S4x1024 : Shape := ⟨2, ![4, 1024]⟩
abbrev S3584x1024 : Shape := ⟨2, ![3584, 1024]⟩
abbrev S_ : Shape := ⟨0, ![]⟩
abbrev S32x1024 : Shape := ⟨2, ![32, 1024]⟩
abbrev S156x1024 : Shape := ⟨2, ![156, 1024]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x1024x5444, .f32⟩
  | .hbm, ⟨1, _⟩ => ⟨S1x1024x5444, .f32⟩
  | .hbm, ⟨2, _⟩ => ⟨S1024x5444, .f32⟩
  | .hbm, ⟨3, _⟩ => ⟨S5444x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S256x1024, .f32⟩
  | .hbm, ⟨8, _⟩ => ⟨S64x1024, .f32⟩
  | .hbm, ⟨9, _⟩ => ⟨S4x1024, .f32⟩
  | .hbm, ⟨10, _⟩ => ⟨S3584x1024, .f32⟩
  | .hbm, ⟨11, _⟩ => ⟨S_, .f32⟩
  | .hbm, ⟨12, _⟩ => ⟨S32x1024, .f32⟩
  | .hbm, ⟨13, _⟩ => ⟨S_, .f32⟩
  | .hbm, ⟨14, _⟩ => ⟨S156x1024, .f32⟩
  | .hbm, ⟨15, _⟩ => ⟨S5632x1024, .f32⟩
  | .hbm, ⟨16, _⟩ => ⟨S5632x1024, .bf16⟩
  | _, _ => ⟨S2x1024x5444, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x512 : Shape := ⟨3, ![4, 4096, 512]⟩
abbrev S4x4096x2x1024 : Shape := ⟨4, ![4, 4096, 2, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S16384x1024 : Shape := ⟨2, ![16384, 1024]⟩
abbrev S4x512x4096 : Shape := ⟨3, ![4, 512, 4096]⟩
abbrev S16384x512 : Shape := ⟨2, ![16384, 512]⟩
abbrev S16384x2048 : Shape := ⟨2, ![16384, 2048]⟩
abbrev S1x1024 : Shape := ⟨2, ![1, 1024]⟩
abbrev S512x1024 : Shape := ⟨2, ![512, 1024]⟩
abbrev S1x512x512 : Shape := ⟨3, ![1, 512, 512]⟩
abbrev S512x512 : Shape := ⟨2, ![512, 512]⟩
abbrev S512x2048 : Shape := ⟨2, ![512, 2048]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩
abbrev S1024x4096 : Shape := ⟨2, ![1024, 4096]⟩
abbrev S4096x1024 : Shape := ⟨2, ![4096, 1024]⟩

abbrev nBuf : Space → Nat
  | .hbm => 28
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x2x1024, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1024, .f32⟩
  | .hbm, ⟨11, _⟩ => ⟨S16384x1024, .f32⟩
  | .hbm, ⟨12, _⟩ => ⟨S4x512x4096, .f32⟩
  | .hbm, ⟨13, _⟩ => ⟨S4x512x4096, .bf16⟩
  | .hbm, ⟨14, _⟩ => ⟨S16384x512, .f32⟩
  | .hbm, ⟨15, _⟩ => ⟨S16384x512, .bf16⟩
  | .hbm, ⟨16, _⟩ => ⟨S16384x2048, .f32⟩
  | .hbm, ⟨17, _⟩ => ⟨S16384x2048, .bf16⟩
  | .hbm, ⟨18, _⟩ => ⟨S2x512x1024, .bf16⟩
  | .hbm, ⟨19, _⟩ => ⟨S2x512x1024, .bf16⟩
  | .hbm, ⟨20, _⟩ => ⟨S2x1024x1024, .bf16⟩
  | .hbm, ⟨21, _⟩ => ⟨S2x1024x4096, .bf16⟩
  | .hbm, ⟨22, _⟩ => ⟨S2x4096x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .bf16⟩
  | .local _ .vmem, ⟨3, _⟩ => ⟨S1x512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1x1024x4096, .bf16⟩
  | .local _ .vmem, ⟨12, _⟩ => ⟨S1x4096x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S4x4096x1024 : Shape := ⟨3, ![4, 4096, 1024]⟩
abbrev S4x4096x512 : Shape := ⟨3, ![4, 4096, 512]⟩
abbrev S4x4096x2x1024 : Shape := ⟨4, ![4, 4096, 2, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x512x1024 : Shape := ⟨3, ![1, 512, 1024]⟩
abbrev S512x1024 : Shape := ⟨2, ![512, 1024]⟩
abbrev S4x4096x1x1024 : Shape := ⟨4, ![4, 4096, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x2x1024, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1024, .f32⟩
  | .hbm, ⟨11, _⟩ => ⟨S1x512x1024, .f32⟩
  | .hbm, ⟨12, _⟩ => ⟨S512x1024, .f32⟩
  | .hbm, ⟨13, _⟩ => ⟨S4x4096x1024, .f32⟩
  | .hbm, ⟨14, _⟩ => ⟨S1x512x1024, .f32⟩
  | .hbm, ⟨15, _⟩ => ⟨S512x1024, .f32⟩
  | .hbm, ⟨16, _⟩ => ⟨S4x4096x1024, .f32⟩
  | .hbm, ⟨17, _⟩ => ⟨S4x4096x1x1024, .f32⟩
  | .hbm, ⟨18, _⟩ => ⟨S4x4096x1024, .f32⟩
  | .hbm, ⟨19, _⟩ => ⟨S4x4096x1024, .f32⟩
  | .hbm, ⟨20, _⟩ => ⟨S4x4096x1x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S1x1024x1024, .f32⟩
  | .hbm, ⟨25, _⟩ => ⟨S1024x1024, .f32⟩
  | .hbm, ⟨26, _⟩ => ⟨S4x4096x1024, .f32⟩
  | .hbm, ⟨27, _⟩ => ⟨S4x4096x1024, .f32⟩
  | .hbm, ⟨28, _⟩ => ⟨S1x1024, .f32⟩
  | .hbm, ⟨29, _⟩ => ⟨S1024, .f32⟩
  | .hbm, ⟨30, _⟩ => ⟨S4x4096x1024, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | .hbm, ⟨46, _⟩ => ⟨S1x1024x4096, .f32⟩
  | .hbm, ⟨47, _⟩ => ⟨S1024x4096, .f32⟩
  | .hbm, ⟨48, _⟩ => ⟨S4x4096x4096, .f32⟩
  | .hbm, ⟨49, _⟩ => ⟨S_, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S1x4096x1024, .f32⟩
  | .hbm, ⟨54, _⟩ => ⟨S4096x1024, .f32⟩
  | .hbm, ⟨55, _⟩ => ⟨S4x4096x1024, .f32⟩
  | .hbm, ⟨56, _⟩ => ⟨S4x4096x1024, .f32⟩
  | .hbm, ⟨57, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.TailSpec.lean ====
module

public import Idealize.ShloMosaic.Lib.Pointwise

@[expose] public section

/-! The end of a layer, one token at a time, over the extended reals: the two branches mixed by their gates, the
residual, the normalisation, the squared-ReLU feed-forward part and the last normalisation. -/

set_option maxRecDepth 16384

noncomputable section

open Idealize.ShloMosaic

namespace Cert.Tail

/-- The residual plus the mixed branches: `x + (ga * (a @ wao) + gb * (u @ wco)) @ wmix`, at one token. -/
def mixRow (x : Fin 1024 → EReal) (a u : Fin 512 → EReal) (ga gb : Fin 1024 → EReal)
    (wao wco : Fin 512 → Fin 1024 → EReal) (wmix : Fin 1024 → Fin 1024 → EReal) : Fin 1024 → EReal :=
  fun d => x d + ∑ k, (ga k * (∑ j, a j * wao j k) + gb k * (∑ j, u j * wco j k)) * wmix k d

/-- The root-mean-square normalisation of one token, `x * rsqrt (mean (x * x) + eps) * g`. -/
def rmsRow (x g : Fin 1024 → EReal) : Fin 1024 → EReal :=
  fun d => x d * Ideal.rsqrt (Ideal.div (∑ k, x k * x k) (Ideal.ofBits .f32 0x44800000#32)
    + Ideal.ofBits .f32 0x358637BD#32) * g d

/-- One hidden unit of the feed-forward part: the square of `max (u @ wup) 0`. -/
def hidRow (u : Fin 1024 → EReal) (wup : Fin 1024 → Fin 4096 → EReal) : Fin 4096 → EReal :=
  fun h => max (∑ k, u k * wup k h) 0 * max (∑ k, u k * wup k h) 0

/-- The residual plus the feed-forward part. -/
def ffnRow (x u : Fin 1024 → EReal) (wup : Fin 1024 → Fin 4096 → EReal) (wdn : Fin 4096 → Fin 1024 → EReal) :
    Fin 1024 → EReal :=
  fun d => x d + ∑ h, hidRow u wup h * wdn h d

/-- One row of the end of a layer that is not the last: mixer, normalisation, feed-forward part. -/
def firstRow (x : Fin 1024 → EReal) (a u : Fin 512 → EReal) (ga gb : Fin 1024 → EReal)
    (wao wco : Fin 512 → Fin 1024 → EReal) (wmix : Fin 1024 → Fin 1024 → EReal) (gm : Fin 1024 → EReal)
    (wup : Fin 1024 → Fin 4096 → EReal) (wdn : Fin 4096 → Fin 1024 → EReal) : Fin 1024 → EReal :=
  ffnRow (mixRow x a u ga gb wao wco wmix) (rmsRow (mixRow x a u ga gb wao wco wmix) gm) wup wdn

/-- One row of the last layer's end: the same, and the last normalisation. -/
def tailRow (x : Fin 1024 → EReal) (a u : Fin 512 → EReal) (ga gb : Fin 1024 → EReal)
    (wao wco : Fin 512 → Fin 1024 → EReal) (wmix : Fin 1024 → Fin 1024 → EReal) (gm : Fin 1024 → EReal)
    (wup : Fin 1024 → Fin 4096 → EReal) (wdn : Fin 4096 → Fin 1024 → EReal) (gf : Fin 1024 → EReal) : Fin 1024 → EReal :=
  rmsRow (firstRow x a u ga gb wao wco wmix gm wup wdn) gf

/-- A sum over 4096 hidden units is the sum of the sums over four chunks of 1024. -/
theorem sum_chunks (f : Fin 4096 → EReal) :
    ∑ h, f h = (∑ k : Fin 1024, f ⟨k, by omega⟩) + (∑ k : Fin 1024, f ⟨1024 + k, by omega⟩)
      + (∑ k : Fin 1024, f ⟨2048 + k, by omega⟩) + ∑ k : Fin 1024, f ⟨3072 + k, by omega⟩ := by
  rw [Fin.sum_univ_tiles 4 1024 rfl f]
  simp only [Fin.sum_univ_four]
  refine congrArg₂ (· + ·) (congrArg₂ (· + ·) (congrArg₂ (· + ·) ?_ ?_) ?_) ?_ <;>
    refine Finset.sum_congr rfl fun k _ => congrArg f (Fin.ext ?_) <;> simp

/-- The feed-forward part added chunk by chunk. -/
theorem ffnRow_chunks (x u : Fin 1024 → EReal) (wup : Fin 1024 → Fin 4096 → EReal)
    (wdn : Fin 4096 → Fin 1024 → EReal) (d : Fin 1024) :
    ffnRow x u wup wdn d = x d + (∑ k : Fin 1024, hidRow u wup ⟨k, by omega⟩ * wdn ⟨k, by omega⟩ d)
      + (∑ k : Fin 1024, hidRow u wup ⟨1024 + k, by omega⟩ * wdn ⟨1024 + k, by omega⟩ d)
      + (∑ k : Fin 1024, hidRow u wup ⟨2048 + k, by omega⟩ * wdn ⟨2048 + k, by omega⟩ d)
      + ∑ k : Fin 1024, hidRow u wup ⟨3072 + k, by omega⟩ * wdn ⟨3072 + k, by omega⟩ d := by
  unfold ffnRow
  rw [sum_chunks]
  simp only [add_assoc]

end Cert.Tail

end
-- ==== Proof.TailPay.lean ====
module

public import proofs.«01_k».proof.Proof.TailSpec
public import proofs.«01_k».proof.Proof.Gen.KernelIdeal.Skeleton

@[expose] public section

set_option maxRecDepth 16384

noncomputable section

open Idealize.ShloMosaic Idealize.ShloMosaic.TcCoe Idealize.SL.Sem

namespace Cert.Tail

open Cert.KernelIdeal Cert.KernelIdeal.Gen

/-- The residual after the mixer, at a block's row. -/
theorem pay2_at (v0 : FVec Ideal S1x512x512 .bf16) (v2 : FVec Ideal S1x512x1024 .bf16) (v5 : FVec Ideal S512x512 .bf16)
    (v7 : FVec Ideal S1x512x1024 .bf16) (v10 v14 : FVec Ideal S512x1024 .bf16) (v19 : FVec Ideal S512x1024 .f32)
    (v22 : FVec Ideal S1x1024x1024 .bf16) (r : Fin 512) (d : Fin 1024) :
    k0_pay2 (F := Ideal) v0 v2 v5 v7 v10 v14 v19 v22 (ix2 r d)
      = mixRow (fun k => v19 (ix2 r k)) (fun k => v0 (ix3 0 k r)) (fun k => v5 (ix2 r k)) (fun k => v10 (ix2 r k))
          (fun k => v14 (ix2 r k)) (fun j k => v2 (ix3 0 j k)) (fun j k => v7 (ix3 0 j k))
          (fun j k => v22 (ix3 0 j k)) d := by
  pointwise [k0_pay2, mixRow]

/-- The sum of squares of a row, as a column. -/
theorem pay4_at (v0 : FVec Ideal S1x512x512 .bf16) (v2 : FVec Ideal S1x512x1024 .bf16) (v5 : FVec Ideal S512x512 .bf16)
    (v7 : FVec Ideal S1x512x1024 .bf16) (v10 v14 : FVec Ideal S512x1024 .bf16) (v19 : FVec Ideal S512x1024 .f32)
    (v22 : FVec Ideal S1x1024x1024 .bf16) (r : Fin 512) :
    k0_pay4 (F := Ideal) v0 v2 v5 v7 v10 v14 v19 v22 (ix2 r 0)
      = ∑ k : Fin 1024, k0_pay2 (F := Ideal) v0 v2 v5 v7 v10 v14 v19 v22 (ix2 r k)
          * k0_pay2 (F := Ideal) v0 v2 v5 v7 v10 v14 v19 v22 (ix2 r k) := by
  pointwise [k0_pay4]

/-- The normalised row. -/
theorem pay6_at (v25 : FVec Ideal S512x1024 .f32) (v27 : FVec Ideal S1x1024 .f32) (v30 v31 : FVec Ideal S512x1 .f32)
    (r : Fin 512) (d : Fin 1024) :
    k0_pay6 (F := Ideal) v25 v27 v30 v31 (ix2 r d)
      = v25 (ix2 r d) * Ideal.rsqrt (Ideal.div (v30 (ix2 r 0)) (v31 (ix2 r 0)) + Ideal.ofBits .f32 0x358637BD#32)
          * v27 (ix2 0 d) := by
  pointwise [k0_pay6]

theorem pay7_at (v25 : FVec Ideal S512x1024 .f32) (v27 : FVec Ideal S1x1024 .f32) (v30 v31 : FVec Ideal S512x1 .f32)
    (v43 v52 : FVec Ideal S1024x1024 .bf16) (r : Fin 512) (d : Fin 1024) :
    k0_pay7 (F := Ideal) v25 v27 v30 v31 v43 v52 (ix2 r d)
      = v25 (ix2 r d) + ∑ h : Fin 1024,
          (max (∑ k : Fin 1024, k0_pay6 (F := Ideal) v25 v27 v30 v31 (ix2 r k) * v43 (ix2 k h)) 0
            * max (∑ k : Fin 1024, k0_pay6 (F := Ideal) v25 v27 v30 v31 (ix2 r k) * v43 (ix2 k h)) 0) * v52 (ix2 h d) := by
  pointwise [k0_pay7]

theorem pay8_at (v25 : FVec Ideal S512x1024 .f32) (v27 : FVec Ideal S1x1024 .f32) (v30 v31 : FVec Ideal S512x1 .f32)
    (v43 : FVec Ideal S1024x1024 .bf16) (r : Fin 512) (h : Fin 1024) :
    k0_pay8 (F := Ideal) v25 v27 v30 v31 v43 (ix2 r h)
      = max (∑ k : Fin 1024, k0_pay6 (F := Ideal) v25 v27 v30 v31 (ix2 r k) * v43 (ix2 k h)) 0
            * max (∑ k : Fin 1024, k0_pay6 (F := Ideal) v25 v27 v30 v31 (ix2 r k) * v43 (ix2 k h)) 0 := by
  pointwise [k0_pay8]

theorem pay9_at (v40 : FVec Ideal S512x1024 .bf16) (v55 : FVec Ideal S512x1024 .f32) (v64 : FVec Ideal S512x1024 .bf16)
    (v67 v73 v82 : FVec Ideal S1024x1024 .bf16) (r : Fin 512) (d : Fin 1024) :
    k0_pay9 (F := Ideal) v40 v55 v64 v67 v73 v82 (ix2 r d)
      = v55 (ix2 r d) + (∑ h : Fin 1024, v64 (ix2 r h) * v67 (ix2 h d))
        + ∑ h : Fin 1024, (max (∑ k : Fin 1024, v40 (ix2 r k) * v73 (ix2 k h)) 0
            * max (∑ k : Fin 1024, v40 (ix2 r k) * v73 (ix2 k h)) 0) * v82 (ix2 h d) := by
  pointwise [k0_pay9]

theorem pay10_at (v40 : FVec Ideal S512x1024 .bf16) (v88 : FVec Ideal S1024x1024 .bf16) (r : Fin 512) (h : Fin 1024) :
    k0_pay10 (F := Ideal) v40 v88 (ix2 r h)
      = max (∑ k : Fin 1024, v40 (ix2 r k) * v88 (ix2 k h)) 0
            * max (∑ k : Fin 1024, v40 (ix2 r k) * v88 (ix2 k h)) 0 := by
  pointwise [k0_pay10]

theorem pay1_at (v85 : FVec Ideal S512x1024 .f32) (v94 : FVec Ideal S512x1024 .bf16)
    (v98 : FVec Ideal S1024x1024 .bf16) (v101 : FVec Ideal S1x1024 .f32) (r : Fin 512) (d : Fin 1024) :
    k0_pay1 (F := Ideal) v85 v94 v98 (constant S512x1024 .f32 0x00000000#32) v101 (ix2 r d)
      = rmsRow (fun d => v85 (ix2 r d) + ∑ h : Fin 1024, v94 (ix2 r h) * v98 (ix2 h d))
          (fun d => v101 (ix2 0 d)) d := by
  pointwise [k0_pay1, rmsRow]

end Cert.Tail

end
-- ==== Proof.TailRef.lean ====
module

public import proofs.«01_k».proof.Proof.TailSpec
public import proofs.«01_k».proof.Proof.Gen.ReferenceIdeal.Run

@[expose] public section

/-! The reference's result as the row functions of its arguments. -/

set_option maxRecDepth 16384

noncomputable section

open Idealize.ShloMosaic Idealize.ShloMosaic.TcCoe Idealize.SL.Sem Idealize.ShloMosaic.Pipeline

namespace Cert.Tail

open Cert.ReferenceIdeal Cert.ReferenceIdeal.Gen

/-- The residual after the mixer, as the reference composes it. -/
def refMix (x : FVec Ideal S4x4096x1024 .f32) (a u : FVec Ideal S4x4096x512 .f32) (g : FVec Ideal S4x4096x2x1024 .f32)
    (wao wco : FVec Ideal S512x1024 .f32) (wmix : FVec Ideal S1024x1024 .f32) : FVec Ideal S4x4096x1024 .f32 :=
  addf x (Host.dotGeneral dot_S4x4096x1024_S1024x1024_S4x4096x1024_2_0_01_1_n_n none
    (addf
      (mulf (shapeCast _ (extractStridedSlice S4x4096x1x1024 ![0, 0, 0, 0] g slices_S4x4096x2x1024_S4x4096x1x1024_0_0_0_0)
          shapeCasts_S4x4096x1x1024_S4x4096x1024)
        (Host.dotGeneral dot_S4x4096x512_S512x1024_S4x4096x1024_2_0_01_1_n_n none a wao))
      (mulf (shapeCast _ (extractStridedSlice S4x4096x1x1024 ![0, 0, 1, 0] g slices_S4x4096x2x1024_S4x4096x1x1024_0_0_1_0)
          shapeCasts_S4x4096x1x1024_S4x4096x1024)
        (Host.dotGeneral dot_S4x4096x512_S512x1024_S4x4096x1024_2_0_01_1_n_n none u wco))) wmix)

/-- The normalisation, as the reference composes it. -/
def refRms (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2
      (Host.rsqrt (addf
        (Host.divf (broadcastInDim S4x4096x1 ![0, 1] bcast_S4x4096_S4x4096x1_0_1
            (Host.reduceAdd (mulf x x) (constant S_ .f32 0x00000000#32) reducesTo_S4x4096x1024_S4x4096_d2 h_S_))
          (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2
      (broadcastInDim S1x1x1024 ![2] bcast_S1024_S1x1x1024_2 g))

/-- The feed-forward part with its residual, as the reference composes it. -/
def refFfn (x u : FVec Ideal S4x4096x1024 .f32) (wup : FVec Ideal S1024x4096 .f32) (wdn : FVec Ideal S4096x1024 .f32) :
    FVec Ideal S4x4096x1024 .f32 :=
  have h : FVec Ideal S4x4096x4096 .f32 :=
    maximumf (Host.dotGeneral dot_S4x4096x1024_S1024x4096_S4x4096x4096_2_0_01_1_n_n none u wup)
      (broadcastInDim S4x4096x4096 ![] bcast_S_S4x4096x4096 (constant S_ .f32 0x00000000#32))
  addf x (Host.dotGeneral dot_S4x4096x4096_S4096x1024_S4x4096x1024_2_0_01_1_n_n none (mulf h h) wdn)

/-- The end of a layer before any last normalisation, over that layer's own weights. -/
def refFirst (x : FVec Ideal S4x4096x1024 .f32) (a u : FVec Ideal S4x4096x512 .f32) (g : FVec Ideal S4x4096x2x1024 .f32)
    (wao wco : FVec Ideal S512x1024 .f32) (wmix : FVec Ideal S1024x1024 .f32) (gm : FVec Ideal S1024 .f32)
    (wup : FVec Ideal S1024x4096 .f32) (wdn : FVec Ideal S4096x1024 .f32) : FVec Ideal S4x4096x1024 .f32 :=
  refFfn (refMix x a u g wao wco wmix) (refRms (refMix x a u g wao wco wmix) gm) wup wdn

/-- The whole reference over arrays: the second layer's weights, and the last normalisation. -/
def refTail (x : FVec Ideal S4x4096x1024 .f32) (a u : FVec Ideal S4x4096x512 .f32) (g : FVec Ideal S4x4096x2x1024 .f32)
    (wao wco : FVec Ideal S2x512x1024 .f32) (wmix : FVec Ideal S2x1024x1024 .f32) (gm : FVec Ideal S2x1024 .f32)
    (wup : FVec Ideal S2x1024x4096 .f32) (wdn : FVec Ideal S2x4096x1024 .f32) (gf : FVec Ideal S1024 .f32) :
    FVec Ideal S16384x1024 .f32 :=
  shapeCast _ (refRms (refFirst x a u g
      (shapeCast _ (extractStridedSlice S1x512x1024 ![1, 0, 0] wao slices_S2x512x1024_S1x512x1024_1_0_0)
        shapeCasts_S1x512x1024_S512x1024)
      (shapeCast _ (extractStridedSlice S1x512x1024 ![1, 0, 0] wco slices_S2x512x1024_S1x512x1024_1_0_0)
        shapeCasts_S1x512x1024_S512x1024)
      (shapeCast _ (extractStridedSlice S1x1024x1024 ![1, 0, 0] wmix slices_S2x1024x1024_S1x1024x1024_1_0_0)
        shapeCasts_S1x1024x1024_S1024x1024)
      (shapeCast _ (extractStridedSlice S1x1024 ![1, 0] gm slices_S2x1024_S1x1024_1_0) shapeCasts_S1x1024_S1024)
      (shapeCast _ (extractStridedSlice S1x1024x4096 ![1, 0, 0] wup slices_S2x1024x4096_S1x1024x4096_1_0_0)
        shapeCasts_S1x1024x4096_S1024x4096)
      (shapeCast _ (extractStridedSlice S1x4096x1024 ![1, 0, 0] wdn slices_S2x4096x1024_S1x4096x1024_1_0_0)
        shapeCasts_S1x4096x1024_S4096x1024)) gf)
    shapeCasts_S4x4096x1024_S16384x1024

theorem res_eq (m : (ℓ : Loc nD τ sig) → Buf (Elt Ideal) ℓ) (c : Dev nD) :
    Cert.ReferenceIdeal.Value.res_out0 (F := Ideal) m c
      = refTail (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := rfl

theorem refMix_at (x : FVec Ideal S4x4096x1024 .f32) (a u : FVec Ideal S4x4096x512 .f32) (g : FVec Ideal S4x4096x2x1024 .f32)
    (wao wco : FVec Ideal S512x1024 .f32) (wmix : FVec Ideal S1024x1024 .f32) (b : Fin 4) (t : Fin 4096) (d : Fin 1024) :
    refMix x a u g wao wco wmix (ix3 b t d)
      = mixRow (fun k => x (ix3 b t k)) (fun j => a (ix3 b t j)) (fun j => u (ix3 b t j))
          (fun k => g (ix4 b t 0 k)) (fun k => g (ix4 b t 1 k)) (fun j k => wao (ix2 j k)) (fun j k => wco (ix2 j k))
          (fun j k => wmix (ix2 j k)) d := by
  pointwise [refMix, mixRow]

theorem refRms_at (x : FVec Ideal S4x4096x1024 .f32) (g : FVec Ideal S1024 .f32) (b : Fin 4) (t : Fin 4096) (d : Fin 1024) :
    refRms x g (ix3 b t d) = rmsRow (fun k => x (ix3 b t k)) (fun k => g (ix1 k)) d := by
  pointwise [refRms, rmsRow]

theorem refFfn_at (x u : FVec Ideal S4x4096x1024 .f32) (wup : FVec Ideal S1024x4096 .f32)
    (wdn : FVec Ideal S4096x1024 .f32) (b : Fin 4) (t : Fin 4096) (d : Fin 1024) :
    refFfn x u wup wdn (ix3 b t d)
      = ffnRow (fun k => x (ix3 b t k)) (fun k => u (ix3 b t k)) (fun k h => wup (ix2 k h)) (fun h k => wdn (ix2 h k)) d := by
  pointwise [refFfn, ffnRow, hidRow]

theorem refFirst_at (x : FVec Ideal S4x4096x1024 .f32) (a u : FVec Ideal S4x4096x512 .f32)
    (g : FVec Ideal S4x4096x2x1024 .f32) (wao wco : FVec Ideal S512x1024 .f32) (wmix : FVec Ideal S1024x1024 .f32)
    (gm : FVec Ideal S1024 .f32) (wup : FVec Ideal S1024x4096 .f32) (wdn : FVec Ideal S4096x1024 .f32)
    (b : Fin 4) (t : Fin 4096) (d : Fin 1024) :
    refFirst x a u g wao wco wmix gm wup wdn (ix3 b t d)
      = firstRow (fun k => x (ix3 b t k)) (fun j => a (ix3 b t j)) (fun j => u (ix3 b t j))
          (fun k => g (ix4 b t 0 k)) (fun k => g (ix4 b t 1 k)) (fun j k => wao (ix2 j k)) (fun j k => wco (ix2 j k))
          (fun j k => wmix (ix2 j k)) (fun k => gm (ix1 k)) (fun k h => wup (ix2 k h)) (fun h k => wdn (ix2 h k)) d := by
  unfold refFirst firstRow
  simp only [refFfn_at, refRms_at, refMix_at]

/-- A row of the result is the token it stands for. -/
theorem cast_at (f : FVec Ideal S4x4096x1024 .f32) (i : Fin 16384) (d : Fin 1024) (b : Fin 4) (t : Fin 4096)
    (hb : b.val = i.val / 4096) (ht : t.val = i.val % 4096) :
    shapeCast S16384x1024 f shapeCasts_S4x4096x1024_S16384x1024 (ix2 i d) = f (ix3 b t d) := by
  have h4 : i.val / 4096 < 4 := by have := i.isLt; clear hb ht; omega
  have h5 : i.val % 4096 < 4096 := by clear hb ht; omega
  obtain rfl : b = ⟨i.val / 4096, h4⟩ := Fin.ext hb
  obtain rfl : t = ⟨i.val % 4096, h5⟩ := Fin.ext ht
  pointwise []

theorem refTail_at (x : FVec Ideal S4x4096x1024 .f32) (a u : FVec Ideal S4x4096x512 .f32) (g : FVec Ideal S4x4096x2x1024 .f32)
    (wao wco : FVec Ideal S2x512x1024 .f32) (wmix : FVec Ideal S2x1024x1024 .f32) (gm : FVec Ideal S2x1024 .f32)
    (wup : FVec Ideal S2x1024x4096 .f32) (wdn : FVec Ideal S2x4096x1024 .f32) (gf : FVec Ideal S1024 .f32)
    (i : Fin 16384) (d : Fin 1024) (b : Fin 4) (t : Fin 4096) (hb : b.val = i.val / 4096) (ht : t.val = i.val % 4096) :
    refTail x a u g wao wco wmix gm wup wdn gf (ix2 i d)
      = tailRow (fun k => x (ix3 b t k)) (fun j => a (ix3 b t j)) (fun j => u (ix3 b t j))
          (fun k => g (ix4 b t 0 k)) (fun k => g (ix4 b t 1 k)) (fun j k => wao (ix3 1 j k)) (fun j k => wco (ix3 1 j k))
          (fun j k => wmix (ix3 1 j k)) (fun k => gm (ix2 1 k)) (fun k h => wup (ix3 1 k h)) (fun h k => wdn (ix3 1 h k))
          (fun k => gf (ix1 k)) d := by
  unfold refTail tailRow
  rw [cast_at _ i d b t hb ht, refRms_at]
  refine congrArg (fun f => rmsRow f _ d) (funext fun e => (refFirst_at ..).trans ?_)
  congr 1
  all_goals
    funext j
    try funext k
    pointwise []

end Cert.Tail

end
-- ==== Proof.TailValue.lean ====
module

public import proofs.«01_k».proof.Proof.TailPay
public import proofs.«01_k».proof.Proof.TailRef
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.Tail

open Cert.KernelIdeal Cert.KernelIdeal.Gen

variable (x0 : FVec Ideal S512x1024 .f32) (x1 : FVec Ideal S1x512x512 .bf16) (x2 : FVec Ideal S512x512 .bf16)
    (x3 : FVec Ideal S512x2048 .bf16) (x4 x5 : FVec Ideal S1x512x1024 .bf16) (x6 : FVec Ideal S1x1024x1024 .bf16)
    (x7 : FVec Ideal S1x1024x4096 .bf16) (x8 : FVec Ideal S1x4096x1024 .bf16) (x9 x10 : FVec Ideal S1x1024 .f32)

/-- The mixed residual of a block's row. -/
abbrev mixOf (r : Fin 512) : Fin 1024 → EReal :=
  mixRow (fun k => x0 (ix2 r k)) (fun j => x1 (ix3 0 j r)) (fun j => x2 (ix2 r j))
    (fun k => x3 (ix2 r ⟨k, by omega⟩)) (fun k => x3 (ix2 r ⟨1024 + k, by omega⟩))
    (fun j k => x4 (ix3 0 j k)) (fun j k => x5 (ix3 0 j k)) (fun j k => x6 (ix3 0 j k))

theorem pay12_at (r : Fin 512) (d : Fin 1024) :
    k0_pay12 (F := Ideal) x0 x1 x2 x3 x4 x5 x6 x7 x8 x9 x10 (ix2 r d) = mixOf x0 x1 x2 x3 x4 x5 x6 r d := by
  unfold k0_pay12
  frame_out
  rw [pay2_at]
  blk_point []

theorem pay14_at (r : Fin 512) :
    k0_pay14 (F := Ideal) x0 x1 x2 x3 x4 x5 x6 x7 x8 x9 x10 (ix2 r 0)
      = ∑ k, mixOf x0 x1 x2 x3 x4 x5 x6 r k * mixOf x0 x1 x2 x3 x4 x5 x6 r k := by
  unfold k0_pay14
  rw [pay4_at]
  exact Finset.sum_congr rfl fun k _ => by
    have h := pay12_at x0 x1 x2 x3 x4 x5 x6 x7 x8 x9 x10 r k
    unfold k0_pay12 at h
    rw [h]

theorem pay16_at (r : Fin 512) (d : Fin 1024) :
    k0_pay16 (F := Ideal) x0 x1 x2 x3 x4 x5 x6 x7 x8 x9 x10 (ix2 r d)
      = rmsRow (mixOf x0 x1 x2 x3 x4 x5 x6 r) (fun k => x9 (ix2 0 k)) d := by
  unfold k0_pay16
  rw [pay6_at, pay12_at, pay14_at]
  unfold k0_pay15 k0_pay13 rmsRow
  frame_out
  pointwise [k0_pay5, k0_pay3]

/-- The layer's end before any last normalisation at a block's row, the feed-forward weights read in four chunks. -/
theorem chunks_at (c0 c1 c2 c3 e0 e1 e2 e3 : FVec Ideal S1024x1024 .bf16)
    (hc0 : ∀ k h : Fin 1024, c0 (ix2 k h) = x7 (ix3 0 k ⟨h, by omega⟩))
    (hc1 : ∀ k h : Fin 1024, c1 (ix2 k h) = x7 (ix3 0 k ⟨1024 + h, by omega⟩))
    (hc2 : ∀ k h : Fin 1024, c2 (ix2 k h) = x7 (ix3 0 k ⟨2048 + h, by omega⟩))
    (hc3 : ∀ k h : Fin 1024, c3 (ix2 k h) = x7 (ix3 0 k ⟨3072 + h, by omega⟩))
    (he0 : ∀ h d : Fin 1024, e0 (ix2 h d) = x8 (ix3 0 ⟨h, by omega⟩ d))
    (he1 : ∀ h d : Fin 1024, e1 (ix2 h d) = x8 (ix3 0 ⟨1024 + h, by omega⟩ d))
    (he2 : ∀ h d : Fin 1024, e2 (ix2 h d) = x8 (ix3 0 ⟨2048 + h, by omega⟩ d))
    (he3 : ∀ h d : Fin 1024, e3 (ix2 h d) = x8 (ix3 0 ⟨3072 + h, by omega⟩ d)) (r : Fin 512) (d : Fin 1024) :
    k0_pay9 (F := Ideal) (k0_pay16 x0 x1 x2 x3 x4 x5 x6 x7 x8 x9 x10)
          (k0_pay7 (k0_pay12 x0 x1 x2 x3 x4 x5 x6 x7 x8 x9 x10) (k0_pay13 x0 x1 x2 x3 x4 x5 x6 x7 x8 x9 x10)
            (k0_pay14 x0 x1 x2 x3 x4 x5 x6 x7 x8 x9 x10) (k0_pay15 x0 x1 x2 x3 x4 x5 x6 x7 x8 x9 x10) c0 e0)
          (k0_pay8 (k0_pay12 x0 x1 x2 x3 x4 x5 x6 x7 x8 x9 x10) (k0_pay13 x0 x1 x2 x3 x4 x5 x6 x7 x8 x9 x10)
            (k0_pay14 x0 x1 x2 x3 x4 x5 x6 x7 x8 x9 x10) (k0_pay15 x0 x1 x2 x3 x4 x5 x6 x7 x8 x9 x10) c1)
          e1 c2 e2 (ix2 r d)
        + ∑ h : Fin 1024, k0_pay10 (F := Ideal) (k0_pay16 x0 x1 x2 x3 x4 x5 x6 x7 x8 x9 x10) c3 (ix2 r h)
            * k0_pay11 (F := Ideal) e3 (ix2 h d)
      = firstRow (fun k => x0 (ix2 r k)) (fun j => x1 (ix3 0 j r)) (fun j => x2 (ix2 r j))
          (fun k => x3 (ix2 r ⟨k, by omega⟩)) (fun k => x3 (ix2 r ⟨1024 + k, by omega⟩))
          (fun j k => x4 (ix3 0 j k)) (fun j k => x5 (ix3 0 j k)) (fun j k => x6 (ix3 0 j k)) (fun k => x9 (ix2 0 k))
          (fun k h => x7 (ix3 0 k h)) (fun h k => x8 (ix3 0 h k)) d := by
  unfold firstRow
  rw [ffnRow_chunks, pay9_at, pay7_at, pay12_at]
  have hu : ∀ k, k0_pay6 (F := Ideal) (k0_pay12 x0 x1 x2 x3 x4 x5 x6 x7 x8 x9 x10)
      (k0_pay13 x0 x1 x2 x3 x4 x5 x6 x7 x8 x9 x10) (k0_pay14 x0 x1 x2 x3 x4 x5 x6 x7 x8 x9 x10)
      (k0_pay15 x0 x1 x2 x3 x4 x5 x6 x7 x8 x9 x10) (ix2 r k)
        = rmsRow (mixOf x0 x1 x2 x3 x4 x5 x6 r) (fun k => x9 (ix2 0 k)) k :=
    fun k => pay16_at x0 x1 x2 x3 x4 x5 x6 x7 x8 x9 x10 r k
  have h11 : ∀ h, k0_pay11 (F := Ideal) e3 (ix2 h d) = e3 (ix2 h d) := fun h => by pointwise [k0_pay11]
  simp only [hidRow, pay8_at, pay10_at, hu, pay16_at, h11, hc0, hc1, hc2, hc3, he0, he1, he2, he3]

/-- What one grid point leaves in the output block, row by row. -/
theorem out_at (r : Fin 512) (d : Fin 1024) :
    out0_11 (F := Ideal) x0 x1 x2 x3 x4 x5 x6 x7 x8 x9 x10 (ix2 r d)
      = tailRow (fun k => x0 (ix2 r k)) (fun j => x1 (ix3 0 j r)) (fun j => x2 (ix2 r j))
          (fun k => x3 (ix2 r ⟨k, by omega⟩)) (fun k => x3 (ix2 r ⟨1024 + k, by omega⟩))
          (fun j k => x4 (ix3 0 j k)) (fun j k => x5 (ix3 0 j k)) (fun j k => x6 (ix3 0 j k)) (fun k => x9 (ix2 0 k))
          (fun k h => x7 (ix3 0 k h)) (fun h k => x8 (ix3 0 h k)) (fun k => x10 (ix2 0 k)) d := by
  frame_out
  rw [pay1_at]
  unfold tailRow
  refine congrArg₂ (fun f g => rmsRow f g d) (funext fun e => ?_) rfl
  refine chunks_at x0 x1 x2 x3 x4 x5 x6 x7 x8 x9 x10 _ _ _ _ _ _ _ _ ?_ ?_ ?_ ?_ ?_ ?_ ?_ ?_ r e
  all_goals
    intro k h
    pointwise []

/-- Where each window's block lies at a grid point. -/
theorem idx : ∀ t : Fin cfg0.N, win0_0.index t = ![t.val, 0] ∧ win0_1.index t = ![t.val / 8, 0, t.val % 8]
    ∧ win0_2.index t = ![t.val, 0] ∧ win0_3.index t = ![t.val, 0] ∧ win0_4.index t = ![1, 0, 0]
    ∧ win0_5.index t = ![1, 0, 0] ∧ win0_6.index t = ![1, 0, 0] ∧ win0_7.index t = ![1, 0, 0]
    ∧ win0_8.index t = ![1, 0, 0] ∧ win0_9.index t = ![0, 0] ∧ win0_10.index t = ![0, 0]
    ∧ win0_11.index t = ![t.val, 0] ∧ t.val < 32 :=
  (by decide +kernel : ∀ t : Fin grid0.N, _)

variable (m : (ℓ : Loc nD τ sig) → Buf (Elt Ideal) ℓ)

/-- The reference at the kernel's argument arrays. -/
abbrev refOf (c : Dev nD) : FVec Ideal S16384x1024 .f32 :=
  refTail (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- A block's row is the reference's row at the token it stands for. -/
theorem point (c : Dev nD) (t : Fin cfg0.N) (r : Fin 512) (d : Fin 1024) (i : Fin 16384) (hi : i.val = t.val * 512 + r.val) :
    out0_11 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (ix2 r d)
      = refOf m c (ix2 i d) := by
  obtain ⟨h0, h1, h2, h3, h4, h5, h6, h7, h8, h9, h10, h11, ht⟩ := idx t
  rw [out_at]
  refine Eq.trans ?_ (refTail_at _ _ _ _ _ _ _ _ _ _ _ i d ⟨t.val / 8, by omega⟩ ⟨t.val % 8 * 512 + r.val, by omega⟩
    (show t.val / 8 = i.val / 4096 by omega) (show t.val % 8 * 512 + r.val = i.val % 4096 by omega)).symm
  congr 1
  · funext k; blk_point [iblk, V, h0]
  · funext k; blk_point [iblk, V, h1]
  · funext k; blk_point [iblk, V, h2]
  · funext k; blk_point [iblk, V, h3]
  · funext k; blk_point [iblk, V, h3]
  · funext k j; blk_point [iblk, V, h4]
  · funext k j; blk_point [iblk, V, h5]
  · funext k j; blk_point [iblk, V, h6]
  · funext k; blk_point [iblk, V, h9]
  · funext k j; blk_point [iblk, V, h7]
  · funext k j; blk_point [iblk, V, h8]
  · funext k; blk_point [iblk, V, h10]

/-- The result array after the run is the reference's. -/
theorem final (c : Dev nD) : (dats m 0 c).arrAt 11 (cfgs 0).N = refOf m c := by
  refine (dats m 0 c).arrAt_eq_of_covers 11 _ (by decide +kernel) fun t _ y => ?_
  blk_simp
  rw [after0_11]
  idx_vars y
  obtain ⟨-, -, -, -, -, -, -, -, -, -, -, h11, ht⟩ := idx t
  refine (point m c t y0 y1 ⟨t.val * 512 + y0.val, by omega⟩ rfl).trans (congrArg (refOf m c) ?_)
  blk_ext [h11]

end Cert.Tail

end
-- ==== Proof.ProjSpec.lean ====
module

public import proofs.«01_k».proof.Proof.TailSpec

@[expose] public section

set_option maxRecDepth 16384

noncomputable section

open Idealize.ShloMosaic Idealize.ShloMosaic.TcCoe Idealize.SL.Sem

namespace Cert.Proj

/-- One vector of 128 lanes rotated with the three tables of the kernel: itself times the first table, the lane eight further
times the second, the lane eight before times the third, lanes counted round the vector. -/
def laneRope (C A B p : Fin 128 → EReal) (l : Fin 128) : EReal :=
  p l * C l + p ⟨(l.val + 128 - 120) % 128, by omega⟩ * A l + p ⟨(l.val + 128 - 8) % 128, by omega⟩ * B l

/-- One head of 64 lanes rotated the plain way: the first eight lanes and the next eight by the angles of the token, the rest kept. -/
def headRope (cs sn : Fin 8 → EReal) (p : Fin 64 → EReal) (e : Fin 64) : EReal :=
  if h : e.val < 16 then
    if h' : e.val < 8 then p e * cs ⟨e.val, h'⟩ - p ⟨8 + e.val, by omega⟩ * sn ⟨e.val, h'⟩
    else p ⟨8 + (e.val - 8), by omega⟩ * cs ⟨e.val - 8, by omega⟩ + p ⟨e.val - 8, by omega⟩ * sn ⟨e.val - 8, by omega⟩
  else p ⟨16 + (e.val - 16), by omega⟩

/-- The first table of the kernel at a lane: the cosine on the sixteen rotated lanes of each head, one elsewhere. -/
def tabC (cs : Fin 8 → EReal) (l : Fin 128) : EReal :=
  if l.val % 64 < 16 then cs ⟨l.val % 8, by omega⟩ else 1

/-- The second table: minus the sine on the first eight lanes of each head, zero elsewhere. -/
def tabA (sn : Fin 8 → EReal) (l : Fin 128) : EReal :=
  if l.val % 64 < 8 then - sn ⟨l.val % 8, by omega⟩ else 0

/-- The third table: the sine on the second eight lanes of each head, zero elsewhere. -/
def tabB (sn : Fin 8 → EReal) (l : Fin 128) : EReal :=
  if 8 ≤ l.val % 64 ∧ l.val % 64 < 16 then sn ⟨l.val % 8, by omega⟩ else 0

/-- The kernel's rotation of a vector of two heads is the plain rotation of the head a lane lies in. -/
theorem laneRope_head (cs sn : Fin 8 → EReal) (p : Fin 128 → EReal) (q : Fin 64 → EReal) (l : Fin 128) (e : Fin 64) (b : Nat)
    (hl : l.val = b * 64 + e.val) (hq : ∀ (f : Fin 64) (l' : Fin 128), l'.val = b * 64 + f.val → p l' = q f) :
    laneRope (tabC cs) (tabA sn) (tabB sn) p l = headRope cs sn q e := by
  have he : l.val % 64 = e.val := by omega
  unfold laneRope headRope tabC tabA tabB
  rw [he, hq e l hl]
  by_cases h8 : e.val < 8
  · have h1 := hq ⟨8 + e.val, by omega⟩ ⟨(l.val + 128 - 120) % 128, by omega⟩
      (by show (l.val + 128 - 120) % 128 = b * 64 + (8 + e.val); omega)
    have hi : (⟨l.val % 8, by omega⟩ : Fin 8) = ⟨e.val, h8⟩ := Fin.ext (show l.val % 8 = e.val by omega)
    have h16 : e.val < 16 := by omega
    rw [h1, hi, dif_pos h16, dif_pos h8, if_pos h16, if_pos h8, if_neg (by omega), mul_zero, add_zero, mul_neg, sub_eq_add_neg]
  · by_cases h16 : e.val < 16
    · have h1 := hq ⟨e.val - 8, by omega⟩ ⟨(l.val + 128 - 8) % 128, by omega⟩
        (by show (l.val + 128 - 8) % 128 = b * 64 + (e.val - 8); omega)
      have hi : (⟨l.val % 8, by omega⟩ : Fin 8) = ⟨e.val - 8, by omega⟩ := Fin.ext (show l.val % 8 = e.val - 8 by omega)
      have he' : (⟨8 + (e.val - 8), by omega⟩ : Fin 64) = e := Fin.ext (show 8 + (e.val - 8) = e.val by omega)
      rw [h1, hi, dif_pos h16, dif_neg h8, if_pos h16, if_neg h8, if_pos ⟨by omega, h16⟩, mul_zero, add_zero, he']
    · have he' : (⟨16 + (e.val - 16), by omega⟩ : Fin 64) = e := Fin.ext (show 16 + (e.val - 16) = e.val by omega)
      rw [dif_neg h16, he', if_neg h8, if_neg h16, if_neg (by omega), mul_one, mul_zero, mul_zero, add_zero, add_zero]

end Cert.Proj

end
-- ==== Proof.ProjPay.lean ====
module

public import proofs.«01_k».proof.Proof.ProjSpec
public import proofs.«01_k».proof.Proof.Gen.Kernel2Ideal.Skeleton

@[expose] public section

set_option maxRecDepth 16384

noncomputable section

open Idealize.ShloMosaic Idealize.ShloMosaic.TcCoe Idealize.SL.Sem

namespace Cert.Proj

open Cert.Kernel2Ideal Cert.Kernel2Ideal.Gen Cert.Tail

/-- The normalised rows. -/
theorem pay5_at (v0 : FVec Ideal S1024x1024 .f32) (v2 : FVec Ideal S1x1024 .f32) (r d : Fin 1024) :
    k0_pay5 (F := Ideal) v0 v2 (ix2 r d) = rmsRow (fun k => v0 (ix2 r k)) (fun k => v2 (ix2 0 k)) d := by
  pointwise [k0_pay5, rmsRow]

/-- A projection of 512 columns. -/
theorem pay9_at (v0 : FVec Ideal S1024x1024 .f32) (v2 : FVec Ideal S1x1024 .f32) (v23 : FVec Ideal S512x1024 .bf16)
    (r : Fin 1024) (j : Fin 512) :
    k0_pay9 (F := Ideal) v0 v2 v23 (ix2 r j) = ∑ k : Fin 1024, k0_pay5 (F := Ideal) v0 v2 (ix2 r k) * v23 (ix2 j k) := by
  pointwise [k0_pay9]

variable (v16 : FVec Ideal S1024x1024 .bf16) (v17 v18 v19 v20 v21 v22 : FVec Ideal S1024x128 .f32) (r : Fin 1024) (l : Fin 128)

/-- A lane of a later vector, counted from that vector's start. -/
theorem lane_sub : 128 + l.val - 128 = l.val ∧ 256 + l.val - 128 - 128 = l.val ∧ 384 + l.val - 128 - 128 - 128 = l.val
    ∧ ¬ (256 + l.val < 128) ∧ ¬ (256 + l.val - 128 < 128) ∧ ¬ (384 + l.val < 128) ∧ ¬ (384 + l.val - 128 < 128)
    ∧ ¬ (384 + l.val - 128 - 128 < 128) ∧ 256 + l.val - 128 - 128 < 128 := by omega

/-- The queries, rotated, scaled and transposed. -/
theorem pay13_at (v0 : FVec Ideal S1024x1024 .f32) (v2 : FVec Ideal S1x1024 .f32) (v23 : FVec Ideal S512x1024 .bf16) (g : Fin 4) :
    k0_pay13 (F := Ideal) (k0_pay6 v17) (k0_pay7 v19) (k0_pay8 v21) (k0_pay9 v0 v2 v23) (k0_pay10 v0 v2 v17 v19 v21 v23)
        (k0_pay11 v0 v2 v23) (k0_pay12 v0 v2 v17 v19 v23) 8#32 (ix3 0 ⟨128 * g.val + l.val, by omega⟩ r)
      = laneRope (fun l => v17 (ix2 r l)) (fun l => v19 (ix2 r l)) (fun l => v21 (ix2 r l))
          (fun l => k0_pay9 (F := Ideal) v0 v2 v23 (ix2 r ⟨128 * g.val + l.val, by omega⟩)) l
        * Ideal.ofBits .f32 0x3E38AA3B#32 := by
  obtain ⟨e1, e2, e3, n1, n2, n3, n4, n5, -⟩ := lane_sub l
  fin_cases g <;> pointwise [k0_pay13, k0_pay6, k0_pay7, k0_pay8, k0_pay10, k0_pay11, k0_pay12, laneRope]
  all_goals simp only [dif_neg n1, dif_neg n2, dif_neg n3, dif_neg n4, dif_neg n5, e1, e2, e3, dif_pos l.isLt]

/-- The keys, rotated. -/
theorem pay19_at (v66 : FVec Ideal S512x1024 .bf16) (g : Fin 4) :
    k0_pay19 (F := Ideal) v18 v20 v22 (k0_pay14 v16 v66) (k0_pay15 v16 v18 v20 v22 v66) (k0_pay17 v16 v18 v20 v66)
        (k0_pay18 v16 v66) (ix3 0 r ⟨128 * g.val + l.val, by omega⟩)
      = laneRope (fun l => v18 (ix2 r l)) (fun l => v20 (ix2 r l)) (fun l => v22 (ix2 r l))
          (fun l => ∑ k : Fin 1024, v16 (ix2 r k) * v66 (ix2 ⟨128 * g.val + l.val, by omega⟩ k)) l := by
  obtain ⟨e1, e2, e3, n1, n2, n3, n4, n5, -⟩ := lane_sub l
  fin_cases g <;> pointwise [k0_pay19, k0_pay14, k0_pay15, k0_pay16, k0_pay17, k0_pay18, laneRope]
  all_goals simp only [dif_neg n1, dif_neg n2, dif_neg n3, dif_neg n4, dif_neg n5, e1, e2, e3, dif_pos l.isLt]

/-- The indexer's queries, rotated and transposed. -/
theorem pay26_at (v127 : FVec Ideal S256x1024 .bf16) (g : Fin 2) :
    k0_pay26 (F := Ideal) v16 v18 v20 v22 v127 (ix3 0 ⟨128 * g.val + l.val, by omega⟩ r)
      = laneRope (fun l => v18 (ix2 r l)) (fun l => v20 (ix2 r l)) (fun l => v22 (ix2 r l))
          (fun l => ∑ k : Fin 1024, v16 (ix2 r k) * v127 (ix2 ⟨128 * g.val + l.val, by omega⟩ k)) l := by
  fin_cases g <;> pointwise [k0_pay26, laneRope]

/-- The indexer's keys and gates: one rotated vector. -/
theorem pay30_at (v152 : FVec Ideal S128x1024 .bf16) :
    k0_pay30 (F := Ideal) v20 v22 (k0_pay27 v16 v152) (k0_pay28 v16 v18 v152) (k0_pay29 v16 v152) (ix2 r l)
      = laneRope (fun l => v18 (ix2 r l)) (fun l => v20 (ix2 r l)) (fun l => v22 (ix2 r l))
          (fun l => ∑ k : Fin 1024, v16 (ix2 r k) * v152 (ix2 l k)) l := by
  pointwise [k0_pay30, k0_pay27, k0_pay28, k0_pay29, laneRope]

theorem pay31_at (v154 v155 v156 : FVec Ideal S1024x128 .f32) :
    k0_pay31 (F := Ideal) v20 v22 v154 v155 v156 (ix3 0 r l) = k0_pay30 (F := Ideal) v20 v22 v154 v155 v156 (ix2 r l) := by
  pointwise [k0_pay31]

theorem pay32_at (v154 v155 v156 : FVec Ideal S1024x128 .f32) :
    k0_pay32 (F := Ideal) v20 v22 v154 v155 v156 (ix3 0 l r) = k0_pay30 (F := Ideal) v20 v22 v154 v155 v156 (ix2 r l) := by
  pointwise [k0_pay32]

/-- The values, transposed. -/
theorem pay20_at (v106 : FVec Ideal S512x1024 .bf16) (j : Fin 512) :
    k0_pay20 (F := Ideal) v16 v106 (ix2 j r) = ∑ k : Fin 1024, v16 (ix2 r k) * v106 (ix2 j k) := by
  pointwise [k0_pay20]

/-- The factor the convolution runs over. -/
theorem pay33_at (v170 v173 : FVec Ideal S512x1024 .bf16) (j : Fin 512) :
    k0_pay33 (F := Ideal) v16 v170 v173 (ix2 r j)
      = (∑ k : Fin 1024, v16 (ix2 r k) * v170 (ix2 j k)) * ∑ k : Fin 1024, v16 (ix2 r k) * v173 (ix2 j k) := by
  pointwise [k0_pay33]

/-- The gated convolution. -/
theorem pay37_at (v176 v206 v207 : FVec Ideal S1024x512 .f32) (v208 v212 v217 : FVec Ideal S1x512 .f32)
    (v222 : FVec Ideal S512x1024 .bf16) (j : Fin 512) :
    k0_pay37 (F := Ideal) v16 v176 v206 v207 v208 v212 v217 v222 (ix2 r j)
      = (∑ k : Fin 1024, v16 (ix2 r k) * v222 (ix2 j k))
        * (v207 (ix2 r j) * v208 (ix2 0 j) + v206 (ix2 r j) * v212 (ix2 0 j) + v176 (ix2 r j) * v217 (ix2 0 j)) := by
  pointwise [k0_pay37]

/-- The logistic gates. -/
theorem pay1_at (v228 : FVec Ideal S512x1024 .bf16) (j : Fin 512) :
    k0_pay1 (F := Ideal) v16 v228 (ix2 r j) = Ideal.logistic (∑ k : Fin 1024, v16 (ix2 r k) * v228 (ix2 j k)) := by
  pointwise [k0_pay1]

theorem pay2_at (v228 : FVec Ideal S512x1024 .bf16) (j : Fin 512) :
    k0_pay2 (F := Ideal) v16 v228 (ix2 r j) = Ideal.logistic (∑ k : Fin 1024, v16 (ix2 r k) * v228 (ix2 j k)) := by
  pointwise [k0_pay2]

theorem pay3_at (v228 : FVec Ideal S512x1024 .bf16) (j : Fin 512) :
    k0_pay3 (F := Ideal) v16 v228 (ix2 r j) = Ideal.logistic (∑ k : Fin 1024, v16 (ix2 r k) * v228 (ix2 j k)) := by
  pointwise [k0_pay3]

theorem pay4_at (v228 : FVec Ideal S512x1024 .bf16) (j : Fin 512) :
    k0_pay4 (F := Ideal) v16 v228 (ix2 r j) = Ideal.logistic (∑ k : Fin 1024, v16 (ix2 r k) * v228 (ix2 j k)) := by
  pointwise [k0_pay4]

/-- The tables as loaded. -/
theorem pay6_at : k0_pay6 (F := Ideal) v17 (ix2 r l) = v17 (ix2 r l) := by pointwise [k0_pay6]
theorem pay7_at : k0_pay7 (F := Ideal) v17 (ix2 r l) = v17 (ix2 r l) := by pointwise [k0_pay7]
theorem pay8_at : k0_pay8 (F := Ideal) v17 (ix2 r l) = v17 (ix2 r l) := by pointwise [k0_pay8]

/-- The four tiles of the values. -/
theorem pay21_at (v106 : FVec Ideal S512x1024 .bf16) (j : Fin 512) (q : Fin 256) :
    k0_pay21 (F := Ideal) v16 v106 (ix4 0 0 j q) = ∑ k : Fin 1024, v16 (ix2 ⟨q.val, by omega⟩ k) * v106 (ix2 j k) := by
  pointwise [k0_pay21, k0_pay20]

theorem pay22_at (v106 : FVec Ideal S512x1024 .bf16) (j : Fin 512) (q : Fin 256) :
    k0_pay22 (F := Ideal) v16 v106 (ix4 0 0 j q) = ∑ k : Fin 1024, v16 (ix2 ⟨256 + q.val, by omega⟩ k) * v106 (ix2 j k) := by
  pointwise [k0_pay22, k0_pay20]

theorem pay24_at (v106 : FVec Ideal S512x1024 .bf16) (j : Fin 512) (q : Fin 256) :
    k0_pay24 (F := Ideal) (k0_pay23 v16 v106) (ix4 0 0 j q)
      = ∑ k : Fin 1024, v16 (ix2 ⟨512 + q.val, by omega⟩ k) * v106 (ix2 j k) := by
  pointwise [k0_pay24, k0_pay23, k0_pay20]

theorem pay25_at (v106 : FVec Ideal S512x1024 .bf16) (j : Fin 512) (q : Fin 256) :
    k0_pay25 (F := Ideal) (k0_pay20 v16 v106) (ix4 0 0 j q)
      = ∑ k : Fin 1024, v16 (ix2 ⟨768 + q.val, by omega⟩ k) * v106 (ix2 j k) := by
  pointwise [k0_pay25, k0_pay20]

/-- What the scratch takes: the factors of the tile, zeros, the last rows of the tile before. -/
theorem pay36_at (v : FVec Ideal S1024x512 .f32) (j : Fin 512) : k0_pay36 (F := Ideal) v (ix2 r j) = v (ix2 r j) := by
  pointwise [k0_pay36]

theorem pay35_at (v : FVec Ideal S8x512 .f32) (i : Fin 8) (j : Fin 512) : k0_pay35 (F := Ideal) v (ix2 i j) = v (ix2 i j) := by
  pointwise [k0_pay35]

theorem pay34_at (i : Fin 8) (j : Fin 512) : k0_pay34 (F := Ideal) (ix2 i j) = (0 : EReal) := by
  pointwise [k0_pay34]

end Cert.Proj

end
-- ==== Proof.ProjRef.lean ====
module

public import proofs.«01_k».proof.Proof.ProjSpec
public import proofs.«01_k».proof.Proof.Gen.Reference2Ideal

@[expose] public section

set_option maxRecDepth 16384

noncomputable section

open Idealize.ShloMosaic Idealize.ShloMosaic.TcCoe Idealize.SL.Sem

namespace Cert.Proj

open Cert.Reference2Ideal Cert.Reference2Ideal.Gen Cert.Tail

/-- The angles of all tokens, as the reference composes them. -/
def refAng : FVec Ideal S4096x8 .f32 :=
  mulf
    (broadcastInDim S4096x8 ![0, 1] bcast_S4096x1_S4096x8_0_1
      (broadcastInDim S4096x1 ![0] bcast_S4096_S4096x1_0 (sitofp .f32 (iotaInDim S4096 32 0))))
    (broadcastInDim S4096x8 ![0, 1] bcast_S1x8_S4096x8_0_1
      (broadcastInDim S1x8 ![1] bcast_S8_S1x8_1
        (Host.divf (broadcastInDim S8 ![] bcast_S_S8 (constant S_ .f32 0x3F800000#32))
          (Host.powf (broadcastInDim S8 ![] bcast_S_S8 (constant S_ .f32 0x48F42400#32))
            (Host.divf
              (addf (broadcastInDim S8 ![] bcast_S_S8 (constant S_ .f32 0x00000000#32))
                (mulf (broadcastInDim S8 ![] bcast_S_S8 (constant S_ .f32 0x40000000#32)) (sitofp .f32 (iotaInDim S8 32 0))))
              (broadcastInDim S8 ![] bcast_S_S8 (constant S_ .f32 0x41800000#32)))))))

/-- Row 1 of the normalisation weights. -/
def refGain (g : FVec Ideal S2x1024 .f32) : FVec Ideal S1024 .f32 :=
  shapeCast _ (extractStridedSlice S1x1024 ![1, 0] g slices_S2x1024_S1x1024_1_0) shapeCasts_S1x1024_S1024

/-- The normalisation. -/
def refNorm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2
      (Host.rsqrt (addf
        (Host.divf (broadcastInDim S4x4096x1 ![0, 1] bcast_S4x4096_S4x4096x1_0_1
            (Host.reduceAdd (mulf x x) (constant S_ .f32 0x00000000#32) reducesTo_S4x4096x1024_S4x4096_d2 h_S_))
          (broadcastInDim S4x4096x1 ![] bcast_S_S4x4096x1 (constant S_ .f32 0x44800000#32)))
        (broadcastInDim S4x4096x1 ![] bcast_S_S4x4096x1 (constant S_ .f32 0x358637BD#32))))))
    (broadcastInDim S4x4096x1024 ![0, 1, 2] bcast_S1x1x1024_S4x4096x1024_0_1_2
      (broadcastInDim S1x1x1024 ![2] bcast_S1024_S1x1x1024_2 g))

/-- The projection of the normalised tokens on all columns. -/
def refProj (x : FVec Ideal S4x4096x1024 .f32) (g : FVec Ideal S2x1024 .f32) (w : FVec Ideal S2x1024x5444 .f32) :
    FVec Ideal S4x4096x5444 .f32 :=
  Host.dotGeneral dot_S4x4096x1024_S1024x5444_S4x4096x5444_2_0_01_1_n_n none (refNorm x (refGain g))
    (shapeCast _ (extractStridedSlice S1x1024x5444 ![1, 0, 0] w slices_S2x1024x5444_S1x1024x5444_1_0_0)
      shapeCasts_S1x1024x5444_S1024x5444)

/-- A token's angles spread over the heads. -/
def refSpread (a : FVec Ideal S4096x8 .f32) : FVec Ideal S1x4096x1x8 .f32 :=
  broadcastInDim S1x4096x1x8 ![1, 3] bcast_S4096x8_S1x4096x1x8_1_3 a

/-- Eight heads rotated. -/
def refRope8 (p : FVec Ideal S4x4096x512 .f32) (a : FVec Ideal S4096x8 .f32) : FVec Ideal S4x4096x512 .f32 :=
  have p4 : FVec Ideal S4x4096x8x64 .f32 := shapeCast _ p shapeCasts_S4x4096x512_S4x4096x8x64
  have x1 : FVec Ideal S4x4096x8x8 .f32 := extractStridedSlice S4x4096x8x8 ![0, 0, 0, 0] p4 slices_S4x4096x8x64_S4x4096x8x8_0_0_0_0
  have x2 : FVec Ideal S4x4096x8x8 .f32 := extractStridedSlice S4x4096x8x8 ![0, 0, 0, 8] p4 slices_S4x4096x8x64_S4x4096x8x8_0_0_0_8
  have c : FVec Ideal S4x4096x8x8 .f32 :=
    broadcastInDim S4x4096x8x8 ![0, 1, 2, 3] bcast_S1x4096x1x8_S4x4096x8x8_0_1_2_3 (refSpread (Host.cos a))
  have s : FVec Ideal S4x4096x8x8 .f32 :=
    broadcastInDim S4x4096x8x8 ![0, 1, 2, 3] bcast_S1x4096x1x8_S4x4096x8x8_0_1_2_3 (refSpread (Host.sin a))
  shapeCast _ (concatenate S4x4096x8x64 3
    [⟨S4x4096x8x16, concatenate S4x4096x8x16 3 [⟨S4x4096x8x8, subf (mulf x1 c) (mulf x2 s)⟩,
        ⟨S4x4096x8x8, addf (mulf x2 c) (mulf x1 s)⟩] concatenates_S4x4096x8x8_S4x4096x8x8_S4x4096x8x16_d3⟩,
      ⟨S4x4096x8x48, extractStridedSlice S4x4096x8x48 ![0, 0, 0, 16] p4 slices_S4x4096x8x64_S4x4096x8x48_0_0_0_16⟩]
    concatenates_S4x4096x8x16_S4x4096x8x48_S4x4096x8x64_d3) shapeCasts_S4x4096x8x64_S4x4096x512

/-- Four heads rotated. -/
def refRope4 (p : FVec Ideal S4x4096x256 .f32) (a : FVec Ideal S4096x8 .f32) : FVec Ideal S4x4096x256 .f32 :=
  have p4 : FVec Ideal S4x4096x4x64 .f32 := shapeCast _ p shapeCasts_S4x4096x256_S4x4096x4x64
  have x1 : FVec Ideal S4x4096x4x8 .f32 := extractStridedSlice S4x4096x4x8 ![0, 0, 0, 0] p4 slices_S4x4096x4x64_S4x4096x4x8_0_0_0_0
  have x2 : FVec Ideal S4x4096x4x8 .f32 := extractStridedSlice S4x4096x4x8 ![0, 0, 0, 8] p4 slices_S4x4096x4x64_S4x4096x4x8_0_0_0_8
  have c : FVec Ideal S4x4096x4x8 .f32 :=
    broadcastInDim S4x4096x4x8 ![0, 1, 2, 3] bcast_S1x4096x1x8_S4x4096x4x8_0_1_2_3 (refSpread (Host.cos a))
  have s : FVec Ideal S4x4096x4x8 .f32 :=
    broadcastInDim S4x4096x4x8 ![0, 1, 2, 3] bcast_S1x4096x1x8_S4x4096x4x8_0_1_2_3 (refSpread (Host.sin a))
  shapeCast _ (concatenate S4x4096x4x64 3
    [⟨S4x4096x4x16, concatenate S4x4096x4x16 3 [⟨S4x4096x4x8, subf (mulf x1 c) (mulf x2 s)⟩,
        ⟨S4x4096x4x8, addf (mulf x2 c) (mulf x1 s)⟩] concatenates_S4x4096x4x8_S4x4096x4x8_S4x4096x4x16_d3⟩,
      ⟨S4x4096x4x48, extractStridedSlice S4x4096x4x48 ![0, 0, 0, 16] p4 slices_S4x4096x4x64_S4x4096x4x48_0_0_0_16⟩]
    concatenates_S4x4096x4x16_S4x4096x4x48_S4x4096x4x64_d3) shapeCasts_S4x4096x4x64_S4x4096x256

/-- One head rotated. -/
def refRope1 (p : FVec Ideal S4x4096x64 .f32) (a : FVec Ideal S4096x8 .f32) : FVec Ideal S4x4096x64 .f32 :=
  have p4 : FVec Ideal S4x4096x1x64 .f32 := broadcastInDim S4x4096x1x64 ![0, 1, 3] bcast_S4x4096x64_S4x4096x1x64_0_1_3 p
  have x1 : FVec Ideal S4x4096x1x8 .f32 := extractStridedSlice S4x4096x1x8 ![0, 0, 0, 0] p4 slices_S4x4096x1x64_S4x4096x1x8_0_0_0_0
  have x2 : FVec Ideal S4x4096x1x8 .f32 := extractStridedSlice S4x4096x1x8 ![0, 0, 0, 8] p4 slices_S4x4096x1x64_S4x4096x1x8_0_0_0_8
  have c : FVec Ideal S4x4096x1x8 .f32 :=
    broadcastInDim S4x4096x1x8 ![0, 1, 2, 3] bcast_S1x4096x1x8_S4x4096x1x8_0_1_2_3 (refSpread (Host.cos a))
  have s : FVec Ideal S4x4096x1x8 .f32 :=
    broadcastInDim S4x4096x1x8 ![0, 1, 2, 3] bcast_S1x4096x1x8_S4x4096x1x8_0_1_2_3 (refSpread (Host.sin a))
  shapeCast _ (concatenate S4x4096x1x64 3
    [⟨S4x4096x1x16, concatenate S4x4096x1x16 3 [⟨S4x4096x1x8, subf (mulf x1 c) (mulf x2 s)⟩,
        ⟨S4x4096x1x8, addf (mulf x2 c) (mulf x1 s)⟩] concatenates_S4x4096x1x8_S4x4096x1x8_S4x4096x1x16_d3⟩,
      ⟨S4x4096x1x48, extractStridedSlice S4x4096x1x48 ![0, 0, 0, 16] p4 slices_S4x4096x1x64_S4x4096x1x48_0_0_0_16⟩]
    concatenates_S4x4096x1x16_S4x4096x1x48_S4x4096x1x64_d3) shapeCasts_S4x4096x1x64_S4x4096x64

/-- The queries, scaled and transposed. -/
def refQ (p : FVec Ideal S4x4096x5444 .f32) : FVec Ideal S4x512x4096 .bf16 :=
  truncf .bf16 (transpose S4x512x4096 [0, 2, 1]
    (mulf (refRope8 (extractStridedSlice S4x4096x512 ![0, 0, 0] p slices_S4x4096x5444_S4x4096x512_0_0_0) refAng)
      (broadcastInDim S4x4096x512 ![] bcast_S_S4x4096x512 (constant S_ .f32 0x3E38AA3B#32)))
    transposes_S4x4096x512_S4x512x4096_0_2_1) bitsLt_bf16_f32

/-- The keys. -/
def refK (p : FVec Ideal S4x4096x5444 .f32) : FVec Ideal S4x4096x512 .bf16 :=
  truncf .bf16 (refRope8 (extractStridedSlice S4x4096x512 ![0, 0, 512] p slices_S4x4096x5444_S4x4096x512_0_0_512) refAng)
    bitsLt_bf16_f32

/-- The values in tiles of 256 tokens, each transposed. -/
def refV (p : FVec Ideal S4x4096x5444 .f32) : FVec Ideal S4x16x512x256 .bf16 :=
  truncf .bf16 (transpose S4x16x512x256 [0, 1, 3, 2]
    (shapeCast _ (extractStridedSlice S4x4096x512 ![0, 0, 1024] p slices_S4x4096x5444_S4x4096x512_0_0_1024)
      shapeCasts_S4x4096x512_S4x16x256x512) transposes_S4x16x256x512_S4x16x512x256_0_1_3_2) bitsLt_bf16_f32

/-- The indexer's queries, transposed. -/
def refIq (p : FVec Ideal S4x4096x5444 .f32) : FVec Ideal S4x256x4096 .bf16 :=
  truncf .bf16 (transpose S4x256x4096 [0, 2, 1]
    (refRope4 (extractStridedSlice S4x4096x256 ![0, 0, 1536] p slices_S4x4096x5444_S4x4096x256_0_0_1536) refAng)
    transposes_S4x4096x256_S4x256x4096_0_2_1) bitsLt_bf16_f32

/-- The indexer's keys beside its head weights, in one vector of 128 lanes a token. -/
def refIkw (p : FVec Ideal S4x4096x5444 .f32) : FVec Ideal S4x4096x128 .f32 :=
  concatenate S4x4096x128 2
    [⟨S4x4096x64, refRope1 (extractStridedSlice S4x4096x64 ![0, 0, 1792] p slices_S4x4096x5444_S4x4096x64_0_0_1792) refAng⟩,
      ⟨S4x4096x32, broadcastInDim S4x4096x32 ![] bcast_S_S4x4096x32 (constant (F := Ideal) S_ .f32 0x00000000#32)⟩,
      ⟨S4x4096x4, extractStridedSlice S4x4096x4 ![0, 0, 1856] p slices_S4x4096x5444_S4x4096x4_0_0_1856⟩,
      ⟨S4x4096x28, broadcastInDim S4x4096x28 ![] bcast_S_S4x4096x28 (constant (F := Ideal) S_ .f32 0x00000000#32)⟩]
    concatenates_S4x4096x64_S4x4096x32_S4x4096x4_S4x4096x28_S4x4096x128_d2

/-- The product the convolution runs over, with two rows of zeros before it. -/
def refPad (p : FVec Ideal S4x4096x5444 .f32) : FVec Ideal S4x4098x512 .f32 :=
  pad S4x4098x512 ![0, 2, 0] ![0, 0, 0] ![0, 0, 0]
    (mulf (extractStridedSlice S4x4096x512 ![0, 0, 2372] p slices_S4x4096x5444_S4x4096x512_0_0_2372)
      (extractStridedSlice S4x4096x512 ![0, 0, 2884] p slices_S4x4096x5444_S4x4096x512_0_0_2884))
    (sitofp .f32 (constantI S_ 32 0#32)) pads_S4x4096x512_S4x4098x512_000_200_000 h_S_

/-- The weights of the convolution. -/
def refCw (w : FVec Ideal S2x3x512 .f32) : FVec Ideal S3x512 .f32 :=
  shapeCast _ (extractStridedSlice S1x3x512 ![1, 0, 0] w slices_S2x3x512_S1x3x512_1_0_0) shapeCasts_S1x3x512_S3x512

/-- A row of weights spread over the tokens. -/
def refRow (w : FVec Ideal S1x512 .f32) : FVec Ideal S4x4096x512 .f32 :=
  broadcastInDim S4x4096x512 ![0, 1, 2] bcast_S1x1x512_S4x4096x512_0_1_2
    (broadcastInDim S1x1x512 ![2] bcast_S512_S1x1x512_2 (shapeCast _ w shapeCasts_S1x512_S512))

/-- The gated convolution. -/
def refU (p : FVec Ideal S4x4096x5444 .f32) (w : FVec Ideal S2x3x512 .f32) : FVec Ideal S4x4096x512 .f32 :=
  mulf (extractStridedSlice S4x4096x512 ![0, 0, 1860] p slices_S4x4096x5444_S4x4096x512_0_0_1860)
    (addf (addf
      (mulf (extractStridedSlice S4x4096x512 ![0, 0, 0] (refPad p) slices_S4x4098x512_S4x4096x512_0_0_0)
        (refRow (extractStridedSlice S1x512 ![0, 0] (refCw w) slices_S3x512_S1x512_0_0)))
      (mulf (extractStridedSlice S4x4096x512 ![0, 1, 0] (refPad p) slices_S4x4098x512_S4x4096x512_0_1_0)
        (refRow (extractStridedSlice S1x512 ![1, 0] (refCw w) slices_S3x512_S1x512_1_0))))
      (mulf (extractStridedSlice S4x4096x512 ![0, 2, 0] (refPad p) slices_S4x4098x512_S4x4096x512_0_2_0)
        (refRow (extractStridedSlice S1x512 ![2, 0] (refCw w) slices_S3x512_S1x512_2_0))))

/-- The gates. -/
def refG (p : FVec Ideal S4x4096x5444 .f32) : FVec Ideal S4x4096x2048 .f32 :=
  Host.divf (broadcastInDim S4x4096x2048 ![] bcast_S_S4x4096x2048 (constant S_ .f32 0x3F800000#32))
    (addf (broadcastInDim S4x4096x2048 ![] bcast_S_S4x4096x2048 (constant S_ .f32 0x3F800000#32))
      (Host.exp (Host.negf (extractStridedSlice S4x4096x2048 ![0, 0, 3396] p slices_S4x4096x5444_S4x4096x2048_0_0_3396))))

/-- The gated convolution, token by token. -/
def refUc (p : FVec Ideal S4x4096x5444 .f32) (w : FVec Ideal S2x3x512 .f32) : FVec Ideal S16384x512 .bf16 :=
  truncf .bf16 (shapeCast _ (refU p w) shapeCasts_S4x4096x512_S16384x512) bitsLt_bf16_f32

/-- The gates, token by token. -/
def refSg (p : FVec Ideal S4x4096x5444 .f32) : FVec Ideal S16384x2048 .bf16 :=
  truncf .bf16 (shapeCast _ (refG p) shapeCasts_S4x4096x2048_S16384x2048) bitsLt_bf16_f32

/-- One angle of a token. -/
def ang (t : Fin 4096) (i : Fin 8) : EReal :=
  FloatOps.sitofp (F := Ideal) .f32 (BitVec.ofNat 32 t.val) *
    Ideal.div 1 (Ideal.pow (Ideal.ofBits .f32 0x48F42400#32)
      (Ideal.div (Ideal.ofBits .f32 0x40000000#32 * FloatOps.sitofp (F := Ideal) .f32 (BitVec.ofNat 32 i.val))
        (Ideal.ofBits .f32 0x41800000#32)))

theorem refAng_at (t : Fin 4096) (i : Fin 8) : refAng (ix2 t i) = ang t i := by
  pointwise [refAng, ang]

theorem refGain_at (g : FVec Ideal S2x1024 .f32) (d : Fin 1024) : refGain g (ix1 d) = g (ix2 1 d) := by
  pointwise [refGain]

theorem refNorm_at (x : FVec Ideal S4x4096x1024 .f32) (g : FVec Ideal S1024 .f32) (b : Fin 4) (t : Fin 4096) (d : Fin 1024) :
    refNorm x g (ix3 b t d) = rmsRow (fun k => x (ix3 b t k)) (fun k => g (ix1 k)) d := by
  pointwise [refNorm, rmsRow]

theorem refProj_at (x : FVec Ideal S4x4096x1024 .f32) (g : FVec Ideal S2x1024 .f32) (w : FVec Ideal S2x1024x5444 .f32)
    (b : Fin 4) (t : Fin 4096) (n : Fin 5444) :
    refProj x g w (ix3 b t n)
      = ∑ k : Fin 1024, rmsRow (fun k => x (ix3 b t k)) (fun k => g (ix2 1 k)) k * w (ix3 1 k n) := by
  pointwise [refProj]
  simp only [refNorm_at, refGain_at]

theorem refRope8_at (p : FVec Ideal S4x4096x512 .f32) (a : FVec Ideal S4096x8 .f32) (b : Fin 4) (t : Fin 4096) (h : Fin 8)
    (e : Fin 64) :
    refRope8 p a (ix3 b t ⟨h.val * 64 + e.val, by omega⟩)
      = headRope (fun i => Ideal.cos (a (ix2 t i))) (fun i => Ideal.sin (a (ix2 t i)))
          (fun e => p (ix3 b t ⟨h.val * 64 + e.val, by omega⟩)) e := by
  pointwise [refRope8, refSpread, headRope]

theorem refRope4_at (p : FVec Ideal S4x4096x256 .f32) (a : FVec Ideal S4096x8 .f32) (b : Fin 4) (t : Fin 4096) (h : Fin 4)
    (e : Fin 64) :
    refRope4 p a (ix3 b t ⟨h.val * 64 + e.val, by omega⟩)
      = headRope (fun i => Ideal.cos (a (ix2 t i))) (fun i => Ideal.sin (a (ix2 t i)))
          (fun e => p (ix3 b t ⟨h.val * 64 + e.val, by omega⟩)) e := by
  pointwise [refRope4, refSpread, headRope]

theorem refRope1_at (p : FVec Ideal S4x4096x64 .f32) (a : FVec Ideal S4096x8 .f32) (b : Fin 4) (t : Fin 4096) (e : Fin 64) :
    refRope1 p a (ix3 b t e)
      = headRope (fun i => Ideal.cos (a (ix2 t i))) (fun i => Ideal.sin (a (ix2 t i))) (fun e => p (ix3 b t e)) e := by
  pointwise [refRope1, refSpread, headRope]

end Cert.Proj

end
-- ==== Proof.ProjRefAt.lean ====
module

public import proofs.«01_k».proof.Proof.ProjRef

@[expose] public section

set_option maxRecDepth 16384

noncomputable section

open Idealize.ShloMosaic Idealize.ShloMosaic.TcCoe Idealize.SL.Sem

namespace Cert.Proj

open Cert.Reference2Ideal Cert.Reference2Ideal.Gen Cert.Tail

variable (p : FVec Ideal S4x4096x5444 .f32) (w : FVec Ideal S2x3x512 .f32) (b : Fin 4) (t : Fin 4096)

/-- The cosines and sines of a token. -/
abbrev csOf (t : Fin 4096) : Fin 8 → EReal := fun i => Ideal.cos (ang t i)
abbrev snOf (t : Fin 4096) : Fin 8 → EReal := fun i => Ideal.sin (ang t i)

theorem turn512_at (x : FVec Ideal S4x4096x512 .f32) (j : Fin 512) :
    truncf (F := Ideal) .bf16 (transpose S4x512x4096 [0, 2, 1]
      (mulf x (broadcastInDim S4x4096x512 ![] bcast_S_S4x4096x512 (constant S_ .f32 0x3E38AA3B#32)))
      transposes_S4x4096x512_S4x512x4096_0_2_1) bitsLt_bf16_f32 (ix3 b j t) = x (ix3 b t j) * Ideal.ofBits .f32 0x3E38AA3B#32 := by
  pointwise

theorem turn256_at (x : FVec Ideal S4x4096x256 .f32) (j : Fin 256) :
    truncf (F := Ideal) .bf16 (transpose S4x256x4096 [0, 2, 1] x transposes_S4x4096x256_S4x256x4096_0_2_1) bitsLt_bf16_f32 (ix3 b j t)
      = x (ix3 b t j) := by
  pointwise

theorem narrow512_at (x : FVec Ideal S4x4096x512 .f32) (j : Fin 512) :
    truncf (F := Ideal) .bf16 x bitsLt_bf16_f32 (ix3 b t j) = x (ix3 b t j) := by
  pointwise

theorem refQ_row (j : Fin 512) :
    refQ p (ix3 b j t) = refRope8 (extractStridedSlice S4x4096x512 ![0, 0, 0] p slices_S4x4096x5444_S4x4096x512_0_0_0) refAng (ix3 b t j) * Ideal.ofBits .f32 0x3E38AA3B#32 :=
  turn512_at b t _ j

theorem refK_row (j : Fin 512) :
    refK p (ix3 b t j) = refRope8 (extractStridedSlice S4x4096x512 ![0, 0, 512] p slices_S4x4096x5444_S4x4096x512_0_0_512) refAng (ix3 b t j) :=
  narrow512_at b t _ j

theorem refIq_row (j : Fin 256) :
    refIq p (ix3 b j t) = refRope4 (extractStridedSlice S4x4096x256 ![0, 0, 1536] p slices_S4x4096x5444_S4x4096x256_0_0_1536) refAng (ix3 b t j) :=
  turn256_at b t _ j

theorem refQ_at (h : Fin 8) (e : Fin 64) :
    refQ p (ix3 b ⟨h.val * 64 + e.val, by omega⟩ t)
      = headRope (csOf t) (snOf t) (fun e => p (ix3 b t ⟨h.val * 64 + e.val, by omega⟩)) e * Ideal.ofBits .f32 0x3E38AA3B#32 := by
  refine (refQ_row p b t _).trans (congrArg (· * _) ((refRope8_at _ refAng b t h e).trans ?_))
  simp only [refAng_at]
  exact congrArg (fun f => headRope (csOf t) (snOf t) f e) (funext fun e => by pointwise)

theorem refK_at (h : Fin 8) (e : Fin 64) :
    refK p (ix3 b t ⟨h.val * 64 + e.val, by omega⟩)
      = headRope (csOf t) (snOf t) (fun e => p (ix3 b t ⟨512 + (h.val * 64 + e.val), by omega⟩)) e := by
  refine (refK_row p b t _).trans ((refRope8_at _ refAng b t h e).trans ?_)
  simp only [refAng_at]
  exact congrArg (fun f => headRope (csOf t) (snOf t) f e) (funext fun e => by pointwise)

theorem refIq_at (h : Fin 4) (e : Fin 64) :
    refIq p (ix3 b ⟨h.val * 64 + e.val, by omega⟩ t)
      = headRope (csOf t) (snOf t) (fun e => p (ix3 b t ⟨1536 + (h.val * 64 + e.val), by omega⟩)) e := by
  refine (refIq_row p b t _).trans ((refRope4_at _ refAng b t h e).trans ?_)
  simp only [refAng_at]
  exact congrArg (fun f => headRope (csOf t) (snOf t) f e) (funext fun e => by pointwise)

theorem refV_at (n : Fin 16) (j : Fin 512) (l : Fin 256) :
    refV p (ix4 b n j l) = p (ix3 b ⟨n.val * 256 + l.val, by omega⟩ ⟨1024 + j.val, by omega⟩) := by
  pointwise [refV]

theorem ikw_at (x : FVec Ideal S4x4096x64 .f32) (l : Fin 128) :
    concatenate S4x4096x128 2
      [⟨S4x4096x64, x⟩, ⟨S4x4096x32, broadcastInDim S4x4096x32 ![] bcast_S_S4x4096x32 (constant (F := Ideal) S_ .f32 0x00000000#32)⟩,
        ⟨S4x4096x4, extractStridedSlice S4x4096x4 ![0, 0, 1856] p slices_S4x4096x5444_S4x4096x4_0_0_1856⟩,
        ⟨S4x4096x28, broadcastInDim S4x4096x28 ![] bcast_S_S4x4096x28 (constant (F := Ideal) S_ .f32 0x00000000#32)⟩]
      concatenates_S4x4096x64_S4x4096x32_S4x4096x4_S4x4096x28_S4x4096x128_d2 (ix3 b t l)
      = if h : l.val < 64 then x (ix3 b t ⟨l.val, h⟩)
        else if h : l.val - 64 < 32 then 0
        else if h' : l.val - 64 - 32 < 4 then p (ix3 b t ⟨1856 + (l.val - 64 - 32), by omega⟩) else 0 := by
  pointwise

theorem refIkw_at (l : Fin 128) :
    refIkw p (ix3 b t l)
      = if h : l.val < 64 then headRope (csOf t) (snOf t) (fun e => p (ix3 b t ⟨1792 + e.val, by omega⟩)) ⟨l.val, h⟩
        else if h : l.val - 64 < 32 then 0
        else if h' : l.val - 64 - 32 < 4 then p (ix3 b t ⟨1856 + (l.val - 64 - 32), by omega⟩) else 0 := by
  refine (ikw_at p b t _ l).trans (dite_congr rfl (fun h => ?_) fun _ => rfl)
  refine (refRope1_at _ refAng b t ⟨l.val, h⟩).trans ?_
  simp only [refAng_at]
  exact congrArg (fun f => headRope (csOf t) (snOf t) f ⟨l.val, h⟩) (funext fun e => by pointwise)

/-- The product the convolution runs over, at a token. -/
def zOf (t : Fin 4096) (j : Fin 512) : EReal :=
  p (ix3 b t ⟨2372 + j.val, by omega⟩) * p (ix3 b t ⟨2884 + j.val, by omega⟩)

/-- The same at a row of the sequence with two rows of zeros before it. -/
def zPad (r : Nat) (j : Fin 512) : EReal :=
  if h : 2 ≤ r ∧ r - 2 < 4096 then
    p (ix3 b ⟨r - 2, h.2⟩ ⟨2372 + j.val, by omega⟩) * p (ix3 b ⟨r - 2, h.2⟩ ⟨2884 + j.val, by omega⟩)
  else FloatOps.sitofp (F := Ideal) .f32 0#32

theorem refU_at (j : Fin 512) :
    refU p w (ix3 b t j)
      = p (ix3 b t ⟨1860 + j.val, by omega⟩) * (zPad p b t.val j * w (ix3 1 0 j) + zPad p b (1 + t.val) j * w (ix3 1 1 j)
          + p (ix3 b t ⟨2372 + j.val, by omega⟩) * p (ix3 b t ⟨2884 + j.val, by omega⟩) * w (ix3 1 2 j)) := by
  pointwise [refU, refPad, refRow, refCw, zPad]

theorem refG_at (j : Fin 2048) :
    refG p (ix3 b t j) = Ideal.logistic (p (ix3 b t ⟨3396 + j.val, by omega⟩)) := by
  pointwise [refG, Ideal.logistic]

theorem refUc_at (i : Fin 16384) (j : Fin 512) (hb : b.val = i.val / 4096) (ht : t.val = i.val % 4096) :
    refUc p w (ix2 i j) = refU p w (ix3 b t j) := by
  have h4 : i.val / 4096 < 4 := by have := i.isLt; clear hb ht; omega
  have h5 : i.val % 4096 < 4096 := by clear hb ht; omega
  obtain rfl : b = ⟨i.val / 4096, h4⟩ := Fin.ext hb
  obtain rfl : t = ⟨i.val % 4096, h5⟩ := Fin.ext ht
  pointwise [refUc]

theorem refSg_at (i : Fin 16384) (j : Fin 2048) (hb : b.val = i.val / 4096) (ht : t.val = i.val % 4096) :
    refSg p (ix2 i j) = refG p (ix3 b t j) := by
  have h4 : i.val / 4096 < 4 := by have := i.isLt; clear hb ht; omega
  have h5 : i.val % 4096 < 4096 := by clear hb ht; omega
  obtain rfl : b = ⟨i.val / 4096, h4⟩ := Fin.ext hb
  obtain rfl : t = ⟨i.val % 4096, h5⟩ := Fin.ext ht
  pointwise [refSg]

/-- The indexer's keys and head weights in the narrow format, and transposed. -/
def refIkwB (p : FVec Ideal S4x4096x5444 .f32) : FVec Ideal S4x4096x128 .bf16 := truncf .bf16 (refIkw p) bitsLt_bf16_f32
def refIkwT (p : FVec Ideal S4x4096x5444 .f32) : FVec Ideal S4x128x4096 .f32 :=
  transpose S4x128x4096 [0, 2, 1] (refIkw p) transposes_S4x4096x128_S4x128x4096_0_2_1

theorem narrow128_at (a : FVec Ideal S4x4096x128 .f32) (b : Fin 4) (t : Fin 4096) (l : Fin 128) :
    (truncf .bf16 a bitsLt_bf16_f32 : FVec Ideal S4x4096x128 .bf16) (ix3 b t l) = a (ix3 b t l) := by pointwise []
theorem turn128_at (a : FVec Ideal S4x4096x128 .f32) (b : Fin 4) (t : Fin 4096) (l : Fin 128) :
    transpose S4x128x4096 [0, 2, 1] a transposes_S4x4096x128_S4x128x4096_0_2_1 (ix3 b l t) = a (ix3 b t l) := by pointwise []
theorem refIkwB_at (p : FVec Ideal S4x4096x5444 .f32) (b : Fin 4) (t : Fin 4096) (l : Fin 128) :
    refIkwB p (ix3 b t l) = refIkw p (ix3 b t l) := narrow128_at _ b t l
theorem refIkwT_at (p : FVec Ideal S4x4096x5444 .f32) (b : Fin 4) (t : Fin 4096) (l : Fin 128) :
    refIkwT p (ix3 b l t) = refIkw p (ix3 b t l) := turn128_at _ b t l

end Cert.Proj

end
-- ==== Proof.ProjHost.lean ====
module

public import proofs.«01_k».proof.Proof.ProjRefAt
public import proofs.«01_k».proof.Proof.Gen.Kernel2Ideal.Frame
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.Proj

open Cert.Kernel2Ideal Cert.Kernel2Ideal.Gen Cert.Tail

variable (m : (ℓ : Loc nD τ sig) → Buf (Elt Ideal) ℓ)

theorem x_read (c : Dev nD) (i : Fin 16384) (k : Fin 1024) :
    V m c main_v31 (ix2 i k)
      = (m ((c : Thread nD τ).loc main_arg0) : FVec Ideal S4x4096x1024 .f32) (ix3 ⟨i.val / 4096, by omega⟩ ⟨i.val % 4096, by omega⟩ k) := by
  unfold V
  simp only [hostOps0, hostOps0_1, hostOps0_2, hostOps0_3, hostOps0_4, hostOps0_5, hostOps0_6, List.flatten_cons, List.flatten_nil,
    List.append_nil, List.cons_append, List.nil_append]
  entry_read
  pointwise

theorem g_read (c : Dev nD) (k : Fin 1024) :
    V m c main_v36 (ix2 0 k) = (m ((c : Thread nD τ).loc main_arg1) : FVec Ideal S2x1024 .f32) (ix2 1 k) := by
  unfold V
  simp only [hostOps0, hostOps0_1, hostOps0_2, hostOps0_3, hostOps0_4, hostOps0_5, hostOps0_6, List.flatten_cons, List.flatten_nil,
    List.append_nil, List.cons_append, List.nil_append]
  entry_read
  pointwise

theorem cw_read (c : Dev nD) (i : Fin 3) (k : Fin 512) :
    V m c main_v46 (ix2 i k) = (m ((c : Thread nD τ).loc main_arg3) : FVec Ideal S2x3x512 .f32) (ix3 1 i k) := by
  unfold V
  simp only [hostOps0, hostOps0_1, hostOps0_2, hostOps0_3, hostOps0_4, hostOps0_5, hostOps0_6, List.flatten_cons, List.flatten_nil,
    List.append_nil, List.cons_append, List.nil_append]
  entry_read
  pointwise

/-- The weights of layer 1 transposed: one row of 1024 a column of the projection. -/
def rowsW (w : FVec Ideal S2x1024x5444 .f32) : FVec Ideal S5444x1024 .bf16 :=
  shapeCast _ (extractStridedSlice S1x5444x1024 ![1, 0, 0]
    (truncf .bf16 (transpose S2x5444x1024 [0, 2, 1] w transposes_S2x1024x5444_S2x5444x1024_0_2_1) bitsLt_bf16_f32)
    slices_S2x5444x1024_S1x5444x1024_1_0_0) shapeCasts_S1x5444x1024_S5444x1024

/-- Five blocks of rows, one below the other. -/
def stack (a : FVec Ideal S1856x1024 .bf16) (b : FVec Ideal S32x1024 .bf16) (c : FVec Ideal S4x1024 .bf16)
    (d : FVec Ideal S156x1024 .bf16) (e : FVec Ideal S3584x1024 .bf16) : FVec Ideal S5632x1024 .bf16 :=
  concatenate S5632x1024 0 [⟨S1856x1024, a⟩, ⟨S32x1024, b⟩, ⟨S4x1024, c⟩, ⟨S156x1024, d⟩, ⟨S3584x1024, e⟩]
    concatenates_S1856x1024_S32x1024_S4x1024_S156x1024_S3584x1024_S5632x1024_d0

/-- The rows as the kernel takes them: the blocks of columns apart, zero rows between. -/
def hostW (w : FVec Ideal S2x1024x5444 .f32) : FVec Ideal S5632x1024 .bf16 :=
  stack (extractStridedSlice S1856x1024 ![0, 0] (rowsW w) slices_S5444x1024_S1856x1024_0_0)
    (broadcastInDim S32x1024 ![] bcast_S_S32x1024 (constant S_ .bf16 0x0000#16))
    (extractStridedSlice S4x1024 ![1856, 0] (rowsW w) slices_S5444x1024_S4x1024_1856_0)
    (broadcastInDim S156x1024 ![] bcast_S_S156x1024 (constant S_ .bf16 0x0000#16))
    (extractStridedSlice S3584x1024 ![1860, 0] (rowsW w) slices_S5444x1024_S3584x1024_1860_0)

theorem stack_at (a : FVec Ideal S1856x1024 .bf16) (b : FVec Ideal S32x1024 .bf16) (c : FVec Ideal S4x1024 .bf16)
    (d : FVec Ideal S156x1024 .bf16) (e : FVec Ideal S3584x1024 .bf16) (n : Fin 5632) (k : Fin 1024) :
    stack a b c d e (ix2 n k)
      = if h : n.val < 1856 then a (ix2 ⟨n.val, h⟩ k)
        else if h1 : n.val - 1856 < 32 then b (ix2 ⟨n.val - 1856, h1⟩ k)
        else if h2 : n.val - 1856 - 32 < 4 then c (ix2 ⟨n.val - 1856 - 32, h2⟩ k)
        else if h3 : n.val - 1856 - 32 - 4 < 156 then d (ix2 ⟨n.val - 1856 - 32 - 4, h3⟩ k)
        else e (ix2 ⟨n.val - 1856 - 32 - 4 - 156, by omega⟩ k) := by
  pointwise [stack]

theorem rowsW_at (w : FVec Ideal S2x1024x5444 .f32) (n : Fin 5444) (k : Fin 1024) : rowsW w (ix2 n k) = w (ix3 1 k n) := by
  pointwise [rowsW]

theorem stack_congr {a a' : FVec Ideal S1856x1024 .bf16} {b b' : FVec Ideal S32x1024 .bf16} {c c' : FVec Ideal S4x1024 .bf16}
    {d d' : FVec Ideal S156x1024 .bf16} {e e' : FVec Ideal S3584x1024 .bf16} (ha : a = a') (hb : b = b') (hc : c = c')
    (hd : d = d') (he : e = e') : stack a b c d e = stack a' b' c' d' e' := by
  subst ha hb hc hd he; rfl

theorem w_tail (σ : Valuation τ sig (Elt Ideal)) :
    StableHlo.after (hostOps0_6 (F := Ideal)) σ (Proc.tc.devRef main_v44) = hostW (σ (Proc.tc.devRef main_arg2)) := by
  simp only [hostOps0_6, StableHlo.after_cons, StableHlo.after_nil]
  rw [StableHlo.reshape_result_ne (h := by decide), StableHlo.unary_result_ne (h := by decide)]
  refine (StableHlo.nary_result _ _ _ _ _ _).trans ?_
  refine stack_congr ?_ ?_ ?_ ?_ ?_
  · change (_ : Valuation τ sig (Elt Ideal)) (Proc.tc.devRef main_v39) = _
    after_results_simp
    rfl
  · change (_ : Valuation τ sig (Elt Ideal)) (Proc.tc.devRef main_v40) = _
    after_results_simp
  · change (_ : Valuation τ sig (Elt Ideal)) (Proc.tc.devRef main_v41) = _
    after_results_simp
    rfl
  · change (_ : Valuation τ sig (Elt Ideal)) (Proc.tc.devRef main_v42) = _
    after_results_simp
  · change (_ : Valuation τ sig (Elt Ideal)) (Proc.tc.devRef main_v43) = _
    after_results_simp
    rfl

theorem w_read (c : Dev nD) : V m c main_v44 = hostW (m ((c : Thread nD τ).loc main_arg2)) := by
  unfold V
  rw [show List.flatten [hostOps0, hostOps0_1, hostOps0_2, hostOps0_3, hostOps0_4, hostOps0_5, hostOps0_6]
      = List.flatten [hostOps0, hostOps0_1, hostOps0_2, hostOps0_3, hostOps0_4, hostOps0_5] ++ hostOps0_6 (F := Ideal) by
    simp only [List.flatten_cons, List.flatten_nil, List.append_nil, List.append_assoc], StableHlo.after_append]
  refine (w_tail _).trans (congrArg hostW ?_)
  simp only [hostOps0, hostOps0_1, hostOps0_2, hostOps0_3, hostOps0_4, hostOps0_5, List.flatten_cons, List.flatten_nil, List.append_nil, List.cons_append, List.nil_append]
  entry_read
  rfl

/-- The arranged rows: a row below 1856 is its column of the projection. -/
theorem w_low (c : Dev nD) (n : Fin 5632) (k : Fin 1024) (n' : Fin 5444) (h : n.val < 1856) (e : n'.val = n.val) :
    V m c main_v44 (ix2 n k) = (m ((c : Thread nD τ).loc main_arg2) : FVec Ideal S2x1024x5444 .f32) (ix3 1 k n') := by
  rw [w_read]
  unfold hostW
  rw [stack_at, dif_pos h, ← rowsW_at (m ((c : Thread nD τ).loc main_arg2))]
  refine Eq.trans (b := rowsW (m ((c : Thread nD τ).loc main_arg2)) (ix2 ⟨n.val, by omega⟩ k)) (by pointwise) ?_
  exact congrArg (fun i => rowsW (m ((c : Thread nD τ).loc main_arg2)) (ix2 i k)) (Fin.ext e.symm)

/-- The four rows of head weights. -/
theorem w_mid (c : Dev nD) (n : Fin 5632) (k : Fin 1024) (n' : Fin 5444) (h : 1888 ≤ n.val) (h' : n.val < 1892)
    (e : n'.val = 1856 + (n.val - 1856 - 32)) :
    V m c main_v44 (ix2 n k) = (m ((c : Thread nD τ).loc main_arg2) : FVec Ideal S2x1024x5444 .f32) (ix3 1 k n') := by
  rw [w_read]
  unfold hostW
  rw [stack_at, dif_neg (by omega), dif_neg (by omega), dif_pos (by omega), ← rowsW_at (m ((c : Thread nD τ).loc main_arg2))]
  refine Eq.trans (b := rowsW (m ((c : Thread nD τ).loc main_arg2)) (ix2 ⟨1856 + (n.val - 1856 - 32), by omega⟩ k)) (by pointwise) ?_
  exact congrArg (fun i => rowsW (m ((c : Thread nD τ).loc main_arg2)) (ix2 i k)) (Fin.ext e.symm)

/-- The rows between are zero. -/
theorem w_zero (c : Dev nD) (n : Fin 5632) (k : Fin 1024) (h : 1856 ≤ n.val ∧ n.val < 1888 ∨ 1892 ≤ n.val ∧ n.val < 2048) :
    V m c main_v44 (ix2 n k) = (0 : EReal) := by
  rw [w_read]
  unfold hostW
  rw [stack_at, dif_neg (by omega)]
  split
  · pointwise
  · rw [dif_neg (by omega), dif_pos (by omega)]
    pointwise

/-- A row from 2048 on is the column 188 before. -/
theorem w_high (c : Dev nD) (n : Fin 5632) (k : Fin 1024) (n' : Fin 5444) (h : 2048 ≤ n.val)
    (e : n'.val = 1860 + (n.val - 1856 - 32 - 4 - 156)) :
    V m c main_v44 (ix2 n k) = (m ((c : Thread nD τ).loc main_arg2) : FVec Ideal S2x1024x5444 .f32) (ix3 1 k n') := by
  rw [w_read]
  unfold hostW
  rw [stack_at, dif_neg (by omega), dif_neg (by omega), dif_neg (by omega), dif_neg (by omega), ← rowsW_at (m ((c : Thread nD τ).loc main_arg2))]
  refine Eq.trans (b := rowsW (m ((c : Thread nD τ).loc main_arg2)) (ix2 ⟨1860 + (n.val - 1856 - 32 - 4 - 156), by omega⟩ k)) (by pointwise) ?_
  exact congrArg (fun i => rowsW (m ((c : Thread nD τ).loc main_arg2)) (ix2 i k)) (Fin.ext e.symm)

/-- The frequency of each lane. -/
def laneInv : FVec Ideal S128 .f32 :=
  Host.gather gather_S8_S128x1_S128_n_0_n_n_0_1_1
    (Host.divf (broadcastInDim S8 ![] bcast_S_S8 (constant S_ .f32 0x3F800000#32))
      (Host.powf (broadcastInDim S8 ![] bcast_S_S8 (constant S_ .f32 0x48F42400#32))
        (Host.divf (addf (broadcastInDim S8 ![] bcast_S_S8 (constant S_ .f32 0x00000000#32))
            (mulf (broadcastInDim S8 ![] bcast_S_S8 (constant S_ .f32 0x40000000#32)) (sitofp .f32 (iotaInDim S8 32 0))))
          (broadcastInDim S8 ![] bcast_S_S8 (constant S_ .f32 0x41800000#32)))))
    (broadcastInDim S128x1 ![0] bcast_S128_S128x1_0
      (select (constantI S128 1 0#1) (addi (fun i => lit0 (S128.rowMajor i)) (broadcastInDim S128 ![] bcast_S_S128 (constantI S_ 32 8#32)))
        fun i => lit0 (S128.rowMajor i)))

/-- The angle of each token and lane. -/
def laneAng : FVec Ideal S4096x128 .f32 :=
  mulf (broadcastInDim S4096x128 ![0, 1] bcast_S4096x1_S4096x128_0_1
      (broadcastInDim S4096x1 ![0] bcast_S4096_S4096x1_0 (sitofp .f32 (iotaInDim S4096 32 0))))
    (broadcastInDim S4096x128 ![0, 1] bcast_S1x128_S4096x128_0_1 (broadcastInDim S1x128 ![1] bcast_S128_S1x128_1 laneInv))

/-- A choice by lane between an array and a constant. -/
def pick (b : IVec S1x128 1) (x : FVec Ideal S4096x128 .f32) (w : BitVec 32) : FVec Ideal S4096x128 .f32 :=
  select (broadcastInDim S4096x128 ![0, 1] bcast_S1x128_S4096x128_0_1 b) x
    (broadcastInDim S4096x128 ![] bcast_S_S4096x128 (constant S_ .f32 w))

/-- The lanes marked by a list of bits. -/
def mark (f : Fin 128 → BitVec 1) : IVec S1x128 1 := broadcastInDim S1x128 ![1] bcast_S128_S1x128_1 fun i => f (S128.rowMajor i)
theorem c_read (c : Dev nD) : V m c main_v27 = pick (ori (mark lit1) (mark lit2)) (Host.cos laneAng) 0x3F800000#32 := by
  unfold V
  simp only [hostOps0, hostOps0_1, hostOps0_2, hostOps0_3, hostOps0_4, hostOps0_5, hostOps0_6, List.flatten_cons, List.flatten_nil,
    List.append_nil, List.cons_append, List.nil_append]
  entry_read
  rfl

theorem a_read (c : Dev nD) : V m c main_v29 = pick (mark lit1) (Host.negf (Host.sin laneAng)) 0x00000000#32 := by
  unfold V
  simp only [hostOps0, hostOps0_1, hostOps0_2, hostOps0_3, hostOps0_4, hostOps0_5, hostOps0_6, List.flatten_cons, List.flatten_nil,
    List.append_nil, List.cons_append, List.nil_append]
  entry_read
  rfl

theorem b_read (c : Dev nD) : V m c main_v30 = pick (mark lit2) (Host.sin laneAng) 0x00000000#32 := by
  unfold V
  simp only [hostOps0, hostOps0_1, hostOps0_2, hostOps0_3, hostOps0_4, hostOps0_5, hostOps0_6, List.flatten_cons, List.flatten_nil,
    List.append_nil, List.cons_append, List.nil_append]
  entry_read
  rfl

/-- The lists of constants: the frequency of each lane, and the lanes of the two rotated halves of each head. -/
theorem lists : ∀ l : Fin 128, min (lit0 l).toInt.toNat 7 = l.val % 8 ∧ lit1 l = (if l.val % 64 < 8 then 1#1 else 0#1)
    ∧ lit2 l = (if 8 ≤ l.val % 64 ∧ l.val % 64 < 16 then 1#1 else 0#1) := by decide +kernel

theorem place (l : Fin 128) : S128.rowMajor (ix1 l) = l := by
  exact Fin.ext (Shape.rowMajor_val_one _)

theorem gather_at (x : FVec Ideal S8 .f32) (i : IVec S128x1 32) (l : Fin 128) :
    Host.gather gather_S8_S128x1_S128_n_0_n_n_0_1_1 x i (ix1 l) = x (ix1 ⟨min (i (ix2 l 0)).toInt.toNat 7, by omega⟩) := by
  unfold Host.gather
  refine congrArg x (funext fun a => ?_)
  obtain rfl : a = 0 := Subsingleton.elim _ _
  refine Fin.ext ?_
  show GatherDims.start _ (ix1 l) i 0 + GatherDims.batchCoord _ (ix1 l) 0 + GatherDims.offCoord _ (ix1 l) 0 = _
  rw [GatherDims.batchCoord_eq_zero _ _ _ List.not_mem_nil,
    GatherDims.offCoord_eq_zero _ _ _ fun h => ((GatherDims.mem_sKept _ _).mp h).1 (List.mem_singleton.mpr rfl)]
  unfold GatherDims.start
  rw [dif_pos (show (0 : Fin 1) ∈ gather_S8_S128x1_S128_n_0_n_n_0_1_1.startIndexMap from List.mem_singleton.mpr rfl)]
  refine congrArg (fun v : BitVec 32 => min v.toInt.toNat 7) (congrArg i (funext fun b => Fin.ext ?_))
  match b with
  | ⟨0, _⟩ => rfl
  | ⟨1, _⟩ => rfl

theorem mark_at (f : Fin 128 → BitVec 1) (l : Fin 128) : mark f (ix2 0 l) = f l := by
  pointwise [mark]
  rw [place]

theorem pick_at (b : IVec S1x128 1) (x : FVec Ideal S4096x128 .f32) (w : BitVec 32) (n : Fin 4096) (l : Fin 128) :
    pick b x w (ix2 n l) = Scalar.select (b (ix2 0 l)) (x (ix2 n l)) (Ideal.ofBits .f32 w) := by
  pointwise [pick]

theorem laneInv_at (l : Fin 128) :
    laneInv (ix1 l) = Ideal.div 1 (Ideal.pow (Ideal.ofBits .f32 0x48F42400#32)
      (Ideal.div (Ideal.ofBits .f32 0x40000000#32 * FloatOps.sitofp (F := Ideal) .f32 (BitVec.ofNat 32 (l.val % 8)))
        (Ideal.ofBits .f32 0x41800000#32))) := by
  unfold laneInv
  rw [gather_at]
  pointwise
  rw [place, (lists l).1]

theorem laneAng_at (n : Fin 4096) (l : Fin 128) : laneAng (ix2 n l) = ang n ⟨l.val % 8, by omega⟩ := by
  pointwise [laneAng, ang]
  rw [laneInv_at]

/-- The three tables at a token and lane. -/
theorem c_at (c : Dev nD) (n : Fin 4096) (l : Fin 128) : V m c main_v27 (ix2 n l) = tabC (csOf n) l := by
  obtain ⟨-, h1, h2⟩ := lists l
  rw [c_read, pick_at]
  pointwise [tabC]
  rw [mark_at, mark_at, laneAng_at, h1, h2]
  by_cases a : l.val % 64 < 8
  · rw [if_pos a, if_neg (by omega), if_pos (by omega)]; rfl
  · by_cases b : l.val % 64 < 16
    · rw [if_neg a, if_pos ⟨by omega, b⟩, if_pos b]; rfl
    · rw [if_neg a, if_neg fun h => b h.2, if_neg b]; rfl

theorem a_at (c : Dev nD) (n : Fin 4096) (l : Fin 128) : V m c main_v29 (ix2 n l) = tabA (snOf n) l := by
  obtain ⟨-, h1, -⟩ := lists l
  rw [a_read, pick_at]
  pointwise [tabA]
  rw [mark_at, laneAng_at, h1]
  by_cases a : l.val % 64 < 8
  · rw [if_pos a, if_pos a]; rfl
  · rw [if_neg a, if_neg a]; rfl

theorem b_at (c : Dev nD) (n : Fin 4096) (l : Fin 128) : V m c main_v30 (ix2 n l) = tabB (snOf n) l := by
  obtain ⟨-, -, h2⟩ := lists l
  rw [b_read, pick_at]
  pointwise [tabB]
  rw [mark_at, laneAng_at, h2]
  by_cases a : 8 ≤ l.val % 64 ∧ l.val % 64 < 16
  · rw [if_pos a, if_pos a]; rfl
  · rw [if_neg a, if_neg a]; rfl

end Cert.Proj

end
-- ==== Proof.ProjValue.lean ====
module

public import proofs.«01_k».proof.Proof.ProjPay
public import proofs.«01_k».proof.Proof.ProjHost
public import proofs.«01_k».proof.Proof.Gen.Kernel2Ideal.Frame
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.Proj

open Cert.Kernel2Ideal Cert.Kernel2Ideal.Gen Cert.Tail

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val % 4, 0]
    ∧ win0_6.index t = ![0, 0] ∧ t.val < 16 :=
  (by decide +kernel : ∀ t : Fin grid0.N, _)

theorem idxO : ∀ t : Fin cfg0.N, win0_7.index t = ![t.val / 4, 0, t.val % 4] ∧ win0_8.index t = ![t.val / 4, t.val % 4, 0]
    ∧ win0_9.index t = ![t.val / 4, t.val % 4, 0, 0] ∧ win0_10.index t = ![t.val / 4, 0, t.val % 4]
    ∧ win0_11.index t = ![t.val / 4, t.val % 4, 0] ∧ win0_12.index t = ![t.val / 4, 0, t.val % 4]
    ∧ win0_13.index t = ![t.val, 0] ∧ win0_14.index t = ![t.val, 0] :=
  (by decide +kernel : ∀ t : Fin grid0.N, _)

/-- The arguments. -/
abbrev X (c : Dev nD) : FVec Ideal S4x4096x1024 .f32 := m ((c : Thread nD τ).loc main_arg0)
abbrev G (c : Dev nD) : FVec Ideal S2x1024 .f32 := m ((c : Thread nD τ).loc main_arg1)
abbrev W (c : Dev nD) : FVec Ideal S2x1024x5444 .f32 := m ((c : Thread nD τ).loc main_arg2)
abbrev CW (c : Dev nD) : FVec Ideal S2x3x512 .f32 := m ((c : Thread nD τ).loc main_arg3)

/-- The reference's projection of them. -/
abbrev P (c : Dev nD) : FVec Ideal Cert.Reference2Ideal.S4x4096x5444 .f32 := refProj (X m c) (G m c) (W m c)

/-- The sequence of a grid point, and the token of a row of its blocks. -/
abbrev sq (t : Fin cfg0.N) : Fin 4 := ⟨t.val / 4, by have := (idx t).2.2.2.2.2.2.2; omega⟩
abbrev tok (t : Fin cfg0.N) (r : Fin 1024) : Fin 4096 := ⟨t.val % 4 * 1024 + r.val, by omega⟩

variable (c : Dev nD) (t : Fin cfg0.N) (r : Fin 1024)

theorem x_blk (k : Fin 1024) : iblk m c 0 t (ix2 r k) = X m c (ix3 (sq t) (tok t r) k) := by
  obtain ⟨h0, -, -, -, -, -, -, ht⟩ := idx t
  refine Eq.trans (b := V m c main_v31 (ix2 ⟨t.val * 1024 + r.val, by omega⟩ k)) (by blk_simp [iblk]; blk_ext [h0]) ?_
  refine (x_read m c _ k).trans (congrArg₂ (fun a b => X m c (ix3 a b k)) (Fin.ext ?_) (Fin.ext ?_))
  · show (t.val * 1024 + r.val) / 4096 = t.val / 4; omega
  · show (t.val * 1024 + r.val) % 4096 = t.val % 4 * 1024 + r.val; omega

theorem g_blk (k : Fin 1024) : iblk m c 1 t (ix2 0 k) = G m c (ix2 1 k) := by
  obtain ⟨-, h, -⟩ := idx t
  exact Eq.trans (b := V m c main_v36 (ix2 0 k)) (by blk_simp [iblk]; blk_ext [h]) (g_read m c k)

theorem w_blk (n : Fin 5632) (k : Fin 1024) : iblk m c 2 t (ix2 n k) = V m c main_v44 (ix2 n k) := by
  obtain ⟨-, -, h, -⟩ := idx t
  blk_simp [iblk]; blk_ext [h]

theorem c_blk : (fun l : Fin 128 => iblk m c 3 t (ix2 r l)) = tabC (csOf (tok t r)) := by
  obtain ⟨-, -, -, h, -⟩ := idx t
  exact funext fun l => Eq.trans (b := V m c main_v27 (ix2 (tok t r) l)) (by blk_simp [iblk]; blk_ext [h]) (c_at m c _ l)

theorem a_blk : (fun l : Fin 128 => iblk m c 4 t (ix2 r l)) = tabA (snOf (tok t r)) := by
  obtain ⟨-, -, -, -, h, -⟩ := idx t
  exact funext fun l => Eq.trans (b := V m c main_v29 (ix2 (tok t r) l)) (by blk_simp [iblk]; blk_ext [h]) (a_at m c _ l)

theorem b_blk : (fun l : Fin 128 => iblk m c 5 t (ix2 r l)) = tabB (snOf (tok t r)) := by
  obtain ⟨-, -, -, -, -, h, -⟩ := idx t
  exact funext fun l => Eq.trans (b := V m c main_v30 (ix2 (tok t r) l)) (by blk_simp [iblk]; blk_ext [h]) (b_at m c _ l)

theorem cw_blk (i : Fin 3) (k : Fin 512) : iblk m c 6 t (ix2 i k) = CW m c (ix3 1 i k) := by
  obtain ⟨-, -, -, -, -, -, h, -⟩ := idx t
  exact Eq.trans (b := V m c main_v46 (ix2 i k)) (by blk_simp [iblk]; blk_ext [h]) (cw_read m c i k)

/-- The normalised rows of a grid point. -/
abbrev U : FVec Ideal S1024x1024 .bf16 := k0_pay5 (F := Ideal) (iblk m c 0 t) (iblk m c 1 t)

/-- A row of the block against a row of the weights is one number of the projection. -/
theorem proj_of (row : Fin 1024 → EReal) (n : Fin 5444) (h : ∀ k, row k = W m c (ix3 1 k n)) :
    ∑ k : Fin 1024, U m c t (ix2 r k) * row k = P m c (ix3 (sq t) (tok t r) n) := by
  refine Eq.trans ?_ (refProj_at _ _ _ _ _ _).symm
  refine Finset.sum_congr rfl fun k _ => congrArg₂ (· * ·) ?_ (h k)
  refine (pay5_at _ _ _ _).trans ?_
  exact congrArg₂ (fun f g => rmsRow f g k) (funext fun k => x_blk m c t r k) (funext fun k => g_blk m c t k)

end Cert.Proj

end
-- ==== Proof.ProjOut.lean ====
module

public import proofs.«01_k».proof.Proof.ProjValue

@[expose] public section

set_option maxRecDepth 16384

noncomputable section

open Idealize.ShloMosaic Idealize.ShloMosaic.TcCoe Idealize.SL.Sem Idealize.ShloMosaic.Pipeline

namespace Cert.Proj

open Cert.Kernel2Ideal Cert.Kernel2Ideal.Gen Cert.Tail

variable (m : (ℓ : Loc nD τ sig) → Buf (Elt Ideal) ℓ) (c : Dev nD) (t : Fin cfg0.N) (r : Fin 1024)

/-- A load of some rows of an array. -/
theorem ld_at {A B R : Nat} {e : EltTy} (x : Shape.Idx ⟨2, ![A, B]⟩ → Elt Ideal e) (o : Nat) (inb) (j : Fin R) (k : Fin B)
    (n : Fin A) (h : n.val = o + j.val) :
    (View.ld (Val := Elt Ideal) (e' := e) x (Rect.unit ![o, 0] ![R, B] inb) : Shape.Idx ⟨2, ![R, B]⟩ → Elt Ideal e) (ix2 j k) = x (ix2 n k) := by
  refine congrArg x (funext fun a => Fin.ext ?_)
  refine (ValueKit.rect_emb_unit_val _ _ _ _ _).trans ?_
  match a with
  | ⟨0, _⟩ => exact h.symm
  | ⟨1, _⟩ => exact Nat.zero_add _

/-- The projection on loaded rows: below row 1856, and from row 2048 on. -/
theorem rows_low {R : Nat} (o : Nat) (inb) (j : Fin R) (n : Fin 5444) (h : o + j.val < 1856) (e : n.val = o + j.val) :
    ∑ k : Fin 1024, U m c t (ix2 r k) * View.ld (iblk m c 2 t) (Rect.unit ![o, 0] ![R, 1024] inb) (ix2 j k)
      = P m c (ix3 (sq t) (tok t r) n) :=
  proj_of m c t r _ n fun k => (ld_at _ o inb j k ⟨o + j.val, by omega⟩ rfl).trans
    ((w_blk m c t _ k).trans (w_low m c _ k n h e))

theorem rows_high {R : Nat} (o : Nat) (inb) (j : Fin R) (n : Fin 5444) (h : 2048 ≤ o + j.val) (h' : o + j.val < 5632)
    (e : n.val = 1860 + (o + j.val - 1856 - 32 - 4 - 156)) :
    ∑ k : Fin 1024, U m c t (ix2 r k) * View.ld (iblk m c 2 t) (Rect.unit ![o, 0] ![R, 1024] inb) (ix2 j k)
      = P m c (ix3 (sq t) (tok t r) n) :=
  proj_of m c t r _ n fun k => (ld_at _ o inb j k ⟨o + j.val, h'⟩ rfl).trans
    ((w_blk m c t _ k).trans (w_high m c _ k n h e))

/-- The rotation with the tables of a token. -/
theorem lane_eq {C A B p : Fin 128 → EReal} {n : Fin 4096} (hC : C = tabC (csOf n)) (hA : A = tabA (snOf n))
    (hB : B = tabB (snOf n)) (q : Fin 64 → EReal) (l : Fin 128) (e : Fin 64) (b : Nat) (hl : l.val = b * 64 + e.val)
    (hq : ∀ (f : Fin 64) (l' : Fin 128), l'.val = b * 64 + f.val → p l' = q f) :
    laneRope C A B p l = headRope (csOf n) (snOf n) q e := by
  subst hC hA hB
  exact laneRope_head _ _ p q l e b hl hq

theorem c_pay : (fun l : Fin 128 => k0_pay6 (F := Ideal) (iblk m c 3 t) (ix2 r l)) = tabC (csOf (tok t r)) :=
  (funext fun l => pay6_at _ r l).trans (c_blk m c t r)
theorem a_pay : (fun l : Fin 128 => k0_pay7 (F := Ideal) (iblk m c 4 t) (ix2 r l)) = tabA (snOf (tok t r)) :=
  (funext fun l => pay7_at _ r l).trans (a_blk m c t r)
theorem b_pay : (fun l : Fin 128 => k0_pay8 (F := Ideal) (iblk m c 5 t) (ix2 r l)) = tabB (snOf (tok t r)) :=
  (funext fun l => pay8_at _ r l).trans (b_blk m c t r)

theorem q_val (g : Fin 4) (l : Fin 128) (inb) :
    k0_pay13 (F := Ideal) (k0_pay6 (iblk m c 3 t)) (k0_pay7 (iblk m c 4 t)) (k0_pay8 (iblk m c 5 t))
        (k0_pay9 (iblk m c 0 t) (iblk m c 1 t) (View.ld (iblk m c 2 t) (Rect.unit ![0, 0] ![512, 1024] inb)))
        (k0_pay10 (iblk m c 0 t) (iblk m c 1 t) (iblk m c 3 t) (iblk m c 4 t) (iblk m c 5 t)
          (View.ld (iblk m c 2 t) (Rect.unit ![0, 0] ![512, 1024] inb)))
        (k0_pay11 (iblk m c 0 t) (iblk m c 1 t) (View.ld (iblk m c 2 t) (Rect.unit ![0, 0] ![512, 1024] inb)))
        (k0_pay12 (iblk m c 0 t) (iblk m c 1 t) (iblk m c 3 t) (iblk m c 4 t)
          (View.ld (iblk m c 2 t) (Rect.unit ![0, 0] ![512, 1024] inb))) 8#32 (ix3 0 ⟨128 * g.val + l.val, by omega⟩ r)
      = refQ (P m c) (ix3 (sq t) ⟨128 * g.val + l.val, by omega⟩ (tok t r)) := by
  refine (pay13_at _ _ _ r l _ _ _ g).trans ?_
  refine Eq.trans ?_ ((congrArg (fun i => refQ (P m c) (ix3 (sq t) i (tok t r))) (Fin.ext (by
    show 128 * g.val + l.val = (2 * g.val + l.val / 64) * 64 + l.val % 64; omega))).trans
      (refQ_at (P m c) (sq t) (tok t r) ⟨2 * g.val + l.val / 64, by omega⟩ ⟨l.val % 64, by omega⟩)).symm
  refine congrArg (· * _) (lane_eq (c_blk m c t r) (a_blk m c t r) (b_blk m c t r) _ l ⟨l.val % 64, by omega⟩ (l.val / 64)
    (by show l.val = l.val / 64 * 64 + l.val % 64; omega) fun f l' hl' => ?_)
  exact (pay9_at _ _ _ r _).trans (rows_low m c t r 0 inb _ _ (by show 0 + (128 * g.val + l'.val) < 1856; omega)
    (by show (2 * g.val + l.val / 64) * 64 + f.val = 0 + (128 * g.val + l'.val); omega))

theorem k_val (g : Fin 4) (l : Fin 128) (inb) :
    k0_pay19 (F := Ideal) (k0_pay6 (iblk m c 3 t)) (k0_pay7 (iblk m c 4 t)) (k0_pay8 (iblk m c 5 t))
        (k0_pay14 (U m c t) (View.ld (iblk m c 2 t) (Rect.unit ![512, 0] ![512, 1024] inb)))
        (k0_pay15 (U m c t) (k0_pay6 (iblk m c 3 t)) (k0_pay7 (iblk m c 4 t)) (k0_pay8 (iblk m c 5 t))
          (View.ld (iblk m c 2 t) (Rect.unit ![512, 0] ![512, 1024] inb)))
        (k0_pay17 (U m c t) (k0_pay6 (iblk m c 3 t)) (k0_pay7 (iblk m c 4 t))
          (View.ld (iblk m c 2 t) (Rect.unit ![512, 0] ![512, 1024] inb)))
        (k0_pay18 (U m c t) (View.ld (iblk m c 2 t) (Rect.unit ![512, 0] ![512, 1024] inb)))
        (ix3 0 r ⟨128 * g.val + l.val, by omega⟩)
      = refK (P m c) (ix3 (sq t) (tok t r) ⟨128 * g.val + l.val, by omega⟩) := by
  refine (pay19_at _ _ _ _ r l _ g).trans ?_
  refine Eq.trans ?_ ((congrArg (fun i => refK (P m c) (ix3 (sq t) (tok t r) i)) (Fin.ext (by
    show 128 * g.val + l.val = (2 * g.val + l.val / 64) * 64 + l.val % 64; omega))).trans
      (refK_at (P m c) (sq t) (tok t r) ⟨2 * g.val + l.val / 64, by omega⟩ ⟨l.val % 64, by omega⟩)).symm
  refine lane_eq (c_pay m c t r) (a_pay m c t r) (b_pay m c t r) _ l ⟨l.val % 64, by omega⟩ (l.val / 64)
    (by show l.val = l.val / 64 * 64 + l.val % 64; omega) fun f l' hl' => ?_
  exact rows_low m c t r 512 inb _ _ (by show 512 + (128 * g.val + l'.val) < 1856; omega)
    (by show 512 + ((2 * g.val + l.val / 64) * 64 + f.val) = 512 + (128 * g.val + l'.val); omega)

theorem iq_val (g : Fin 2) (l : Fin 128) (inb) :
    k0_pay26 (F := Ideal) (U m c t) (k0_pay6 (iblk m c 3 t)) (k0_pay7 (iblk m c 4 t)) (k0_pay8 (iblk m c 5 t))
        (View.ld (iblk m c 2 t) (Rect.unit ![1536, 0] ![256, 1024] inb)) (ix3 0 ⟨128 * g.val + l.val, by omega⟩ r)
      = refIq (P m c) (ix3 (sq t) ⟨128 * g.val + l.val, by omega⟩ (tok t r)) := by
  refine (pay26_at _ _ _ _ r l _ g).trans ?_
  refine Eq.trans ?_ ((congrArg (fun i => refIq (P m c) (ix3 (sq t) i (tok t r))) (Fin.ext (by
    show 128 * g.val + l.val = (2 * g.val + l.val / 64) * 64 + l.val % 64; omega))).trans
      (refIq_at (P m c) (sq t) (tok t r) ⟨2 * g.val + l.val / 64, by omega⟩ ⟨l.val % 64, by omega⟩)).symm
  refine lane_eq (c_pay m c t r) (a_pay m c t r) (b_pay m c t r) _ l ⟨l.val % 64, by omega⟩ (l.val / 64)
    (by show l.val = l.val / 64 * 64 + l.val % 64; omega) fun f l' hl' => ?_
  exact rows_low m c t r 1536 inb _ _ (by show 1536 + (128 * g.val + l'.val) < 1856; omega)
    (by show 1536 + ((2 * g.val + l.val / 64) * 64 + f.val) = 1536 + (128 * g.val + l'.val); omega)

/-- The lanes past the indexer's keys, before their rotation: zeros, the head weights, zeros. -/
def gateLane (f : Fin 64) : EReal :=
  if h : f.val < 32 then 0 else if h' : f.val - 32 < 4 then P m c (ix3 (sq t) (tok t r) ⟨1856 + (f.val - 32), by omega⟩) else 0

theorem ikw_val (l : Fin 128) (inb) :
    k0_pay30 (F := Ideal) (k0_pay7 (iblk m c 4 t)) (k0_pay8 (iblk m c 5 t))
        (k0_pay27 (U m c t) (View.ld (iblk m c 2 t) (Rect.unit ![1792, 0] ![128, 1024] inb)))
        (k0_pay28 (U m c t) (k0_pay6 (iblk m c 3 t)) (View.ld (iblk m c 2 t) (Rect.unit ![1792, 0] ![128, 1024] inb)))
        (k0_pay29 (U m c t) (View.ld (iblk m c 2 t) (Rect.unit ![1792, 0] ![128, 1024] inb))) (ix2 r l)
      = refIkw (P m c) (ix3 (sq t) (tok t r) l) := by
  refine (pay30_at _ _ _ _ r l _).trans ?_
  refine Eq.trans ?_ (refIkw_at (P m c) (sq t) (tok t r) l).symm
  by_cases h : l.val < 64
  · rw [dif_pos h]
    refine lane_eq (c_pay m c t r) (a_pay m c t r) (b_pay m c t r) _ l ⟨l.val, h⟩ 0 (by show l.val = 0 * 64 + l.val; omega)
      fun f l' hl' => ?_
    exact rows_low m c t r 1792 inb _ _ (by show 1792 + l'.val < 1856; omega)
      (by show 1792 + f.val = 1792 + l'.val; omega)
  · rw [dif_neg h]
    refine (lane_eq (c_pay m c t r) (a_pay m c t r) (b_pay m c t r) (gateLane m c t r) l ⟨l.val - 64, by omega⟩ 1
      (by show l.val = 1 * 64 + (l.val - 64); omega) fun f l' hl' => ?_).trans ?_
    · have hz : (1856 ≤ 1792 + l'.val ∧ 1792 + l'.val < 1888 ∨ 1892 ≤ 1792 + l'.val ∧ 1792 + l'.val < 2048) →
          ∑ k : Fin 1024, U m c t (ix2 r k) * View.ld (iblk m c 2 t) (Rect.unit ![1792, 0] ![128, 1024] inb) (ix2 l' k) = 0 :=
        fun hb => Finset.sum_eq_zero fun k _ => (congrArg (U m c t (ix2 r k) * ·) ((ld_at _ 1792 inb l' k ⟨1792 + l'.val, by omega⟩ rfl).trans
          ((w_blk m c t _ k).trans (w_zero m c _ k hb)))).trans (mul_zero _)
      unfold gateLane
      by_cases h1 : f.val < 32
      · rw [dif_pos h1]
        exact hz (by omega)
      · by_cases h2 : f.val - 32 < 4
        · rw [dif_neg h1, dif_pos h2]
          exact proj_of m c t r _ _ fun k => (ld_at _ 1792 inb l' k ⟨1792 + l'.val, by omega⟩ rfl).trans
            ((w_blk m c t _ k).trans (w_mid m c _ k _ (by show 1888 ≤ 1792 + l'.val; omega) (by show 1792 + l'.val < 1892; omega)
              (by show 1856 + (f.val - 32) = 1856 + (1792 + l'.val - 1856 - 32); omega)))
        · rw [dif_neg h1, dif_neg h2]
          exact hz (by omega)
    · unfold headRope gateLane
      by_cases h1 : l.val - 64 < 32
      · rw [dif_pos h1]
        by_cases h2 : l.val - 64 < 16
        · rw [dif_pos h2]
          by_cases h3 : l.val - 64 < 8
          · rw [dif_pos h3, dif_pos (by show 8 + (l.val - 64) < 32; omega), zero_mul, zero_mul, sub_zero]
          · rw [dif_neg h3, dif_pos (by show 8 + (l.val - 64 - 8) < 32; omega), dif_pos (by show l.val - 64 - 8 < 32; omega), zero_mul, zero_mul, add_zero]
        · rw [dif_neg h2, dif_pos (by show 16 + (l.val - 64 - 16) < 32; omega)]
      · rw [dif_neg h1, dif_neg (by show ¬ l.val - 64 < 16; omega), dif_neg (by show ¬ 16 + (l.val - 64 - 16) < 32; omega)]
        by_cases h2 : l.val - 64 - 32 < 4
        · rw [dif_pos h2, dif_pos (by show 16 + (l.val - 64 - 16) - 32 < 4; omega)]
          exact congrArg (fun i => P m c (ix3 (sq t) (tok t r) i)) (Fin.ext (by
            show 1856 + (16 + (l.val - 64 - 16) - 32) = 1856 + (l.val - 64 - 32); omega))
        · rw [dif_neg h2, dif_neg (by show ¬ 16 + (l.val - 64 - 16) - 32 < 4; omega)]

end Cert.Proj

end
-- ==== Proof.ProjOut2.lean ====
module

public import proofs.«01_k».proof.Proof.ProjOut

@[expose] public section

set_option maxRecDepth 16384

noncomputable section

open Idealize.ShloMosaic Idealize.ShloMosaic.TcCoe Idealize.SL.Sem Idealize.ShloMosaic.Pipeline

namespace Cert.Proj

open Cert.Kernel2Ideal Cert.Kernel2Ideal.Gen Cert.Tail

variable (m : (ℓ : Loc nD τ sig) → Buf (Elt Ideal) ℓ) (c : Dev nD) (t : Fin cfg0.N) (r : Fin 1024)

/-- The two rows before a tile and the tile, as the scratch holds them. -/
theorem held_at (a : FVec Ideal S1024x512 .f32) (b : FVec Ideal S8x512 .f32) (i : Fin 1032) (j : Fin 512) (inb inb') :
    View.canon (Val := Elt Ideal) (e := .f32) (s := S1032x512)
        [⟨Rect.unit ![8, 0] ![1024, 512] inb, a⟩, ⟨Rect.unit ![0, 0] ![8, 512] inb', b⟩] (ix2 i j)
      = if h : i.val < 8 then b (ix2 ⟨i.val, h⟩ j) else a (ix2 ⟨i.val - 8, by omega⟩ j) := by
  have hc : ∃ p ∈ ([⟨Rect.unit ![8, 0] ![1024, 512] inb, a⟩, ⟨Rect.unit ![0, 0] ![8, 512] inb', b⟩] :
      List ((R : Rect S1032x512) × (R.shape.Idx → Elt Ideal .f32))), ix2 i j ∈ p.1.set := by
    by_cases h : i.val < 8
    · refine ⟨⟨Rect.unit ![0, 0] ![8, 512] inb', b⟩, List.mem_cons_of_mem _ List.mem_cons_self, (Rect.mem_set_unit (inb := inb')).mpr fun d => ?_⟩
      match d with
      | ⟨0, _⟩ => exact ⟨Nat.zero_le _, by show i.val < 0 + 8; omega⟩
      | ⟨1, _⟩ => exact ⟨Nat.zero_le _, by show j.val < 0 + 512; omega⟩
    · refine ⟨_, List.mem_cons_self, (Rect.mem_set_unit (inb := inb)).mpr fun d => ?_⟩
      match d with
      | ⟨0, _⟩ => exact ⟨by show 8 ≤ i.val; omega, by show i.val < 8 + 1024; omega⟩
      | ⟨1, _⟩ => exact ⟨Nat.zero_le _, by show j.val < 0 + 512; omega⟩
  canon_tiles x h using hc
  · have h : i.val = 8 + (x 0).val := h0
    rw [dif_neg (by omega)]
    refine congrArg a (funext fun d => Fin.ext ?_)
    match d with
    | ⟨0, _⟩ => show (x 0).val = i.val - 8; omega
    | ⟨1, _⟩ => exact h1.symm
  · have h : i.val = (x 0).val := h0
    rw [dif_pos (by omega)]
    refine congrArg b (funext fun d => Fin.ext ?_)
    match d with
    | ⟨0, _⟩ => exact h0.symm
    | ⟨1, _⟩ => exact h1.symm

theorem v_val (q : Fin 4) (j : Fin 512) (l : Fin 256) (o : Nat) (inb) (h : o = q.val * 256 + l.val) :
    ∑ k : Fin 1024, U m c t (ix2 ⟨o, by omega⟩ k)
        * View.ld (iblk m c 2 t) (Rect.unit ![1024, 0] ![512, 1024] inb) (ix2 j k)
      = refV (P m c) (ix4 (sq t) ⟨t.val % 4 * 4 + q.val, by omega⟩ j l) := by
  subst h
  refine Eq.trans ?_ (refV_at (P m c) (sq t) ⟨t.val % 4 * 4 + q.val, by omega⟩ j l).symm
  refine (rows_low m c t _ 1024 inb j ⟨1024 + j.val, by omega⟩ (by omega) rfl).trans ?_
  refine congrArg (fun i => P m c (ix3 (sq t) i _)) (Fin.ext ?_)
  show t.val % 4 * 1024 + (q.val * 256 + l.val) = (t.val % 4 * 4 + q.val) * 256 + l.val
  omega

/-- The row of a token among all tokens. -/
abbrev row (t : Fin cfg0.N) (r : Fin 1024) : Fin 16384 := ⟨t.val * 1024 + r.val, by have := (idx t).2.2.2.2.2.2.2; omega⟩

theorem sg_val (o : Nat) (n : Fin 2048) (j : Fin 512) (inb) (ho : 2048 ≤ o) (ho' : o ≤ 5120) (h : n.val = o - 3584 + j.val) (h3 : 3584 ≤ o) :
    Ideal.logistic (∑ k : Fin 1024, U m c t (ix2 r k)
        * View.ld (iblk m c 2 t) (Rect.unit ![o, 0] ![512, 1024] inb) (ix2 j k))
      = refSg (P m c) (ix2 (row t r) n) := by
  refine Eq.trans (congrArg Ideal.logistic (rows_high m c t r o inb j ⟨3396 + n.val, by omega⟩ (by omega) (by omega)
    (by show 3396 + n.val = 1860 + (o + j.val - 1856 - 32 - 4 - 156); omega))) ?_
  refine (Eq.trans (refSg_at (P m c) (sq t) (tok t r) (row t r) n ?_ ?_) (refG_at (P m c) (sq t) (tok t r) n)).symm
  · show t.val / 4 = (t.val * 1024 + r.val) / 4096; omega
  · show t.val % 4 * 1024 + r.val = (t.val * 1024 + r.val) % 4096; omega

/-- The factor of a tile. -/
theorem z_val (j : Fin 512) (inb inb') :
    k0_pay33 (F := Ideal) (U m c t) (View.ld (iblk m c 2 t) (Rect.unit ![2560, 0] ![512, 1024] inb))
        (View.ld (iblk m c 2 t) (Rect.unit ![3072, 0] ![512, 1024] inb')) (ix2 r j)
      = zOf (P m c) (sq t) (tok t r) j :=
  (pay33_at _ r _ _ j).trans (congrArg₂ (· * ·)
    (rows_high m c t r 2560 inb j _ (by omega) (by omega) (by show 2372 + j.val = 1860 + (2560 + j.val - 1856 - 32 - 4 - 156); omega))
    (rows_high m c t r 3072 inb' j _ (by omega) (by omega) (by show 2884 + j.val = 1860 + (3072 + j.val - 1856 - 32 - 4 - 156); omega)))

/-- One row of the buffer under the convolution. -/
theorem buf_at (b : FVec Ideal S8x512 .f32)
    (hb : ∀ i : Fin 8, 6 ≤ i.val → ∀ j, b (ix2 i j) = zPad (P m c) (sq t) (t.val % 4 * 1024 + i.val - 6) j)
    (i : Fin 1032) (hi : 6 ≤ i.val) (j : Fin 512) (inb inb' inb1 inb2) :
    View.canon (Val := Elt Ideal) (e := .f32) (s := S1032x512)
        [⟨Rect.unit ![8, 0] ![1024, 512] inb, k0_pay36 (F := Ideal) (k0_pay33 (F := Ideal) (U m c t)
            (View.ld (iblk m c 2 t) (Rect.unit ![2560, 0] ![512, 1024] inb1))
            (View.ld (iblk m c 2 t) (Rect.unit ![3072, 0] ![512, 1024] inb2)))⟩,
          ⟨Rect.unit ![0, 0] ![8, 512] inb', b⟩] (ix2 i j)
      = zPad (P m c) (sq t) (t.val % 4 * 1024 + i.val - 6) j := by
  refine (held_at _ b i j inb inb').trans ?_
  by_cases h : i.val < 8
  · rw [dif_pos h]
    exact hb ⟨i.val, h⟩ hi j
  · rw [dif_neg h]
    refine (pay36_at _ _ j).trans ((z_val m c t _ j inb1 inb2).trans ?_)
    unfold zPad zOf
    have e : t.val % 4 * 1024 + i.val - 6 - 2 = t.val % 4 * 1024 + (i.val - 8) := by omega
    rw [dif_pos ⟨by omega, by omega⟩]
    simp only [e]

/-- The convolution over such a buffer. -/
theorem uc_val (L : List ((R : Rect S1032x512) × (R.shape.Idx → Elt Ideal .f32)))
    (hL : ∀ (i : Fin 1032) (j : Fin 512), 6 ≤ i.val →
      View.canon L (ix2 i j) = zPad (P m c) (sq t) (t.val % 4 * 1024 + i.val - 6) j)
    (j : Fin 512) (i7 i6 inb1 inb2 inb3 w0 w1 w2) :
    k0_pay37 (F := Ideal) (U m c t)
        (k0_pay33 (F := Ideal) (U m c t) (View.ld (iblk m c 2 t) (Rect.unit ![2560, 0] ![512, 1024] inb1))
          (View.ld (iblk m c 2 t) (Rect.unit ![3072, 0] ![512, 1024] inb2)))
        ((View.whole cc0_scratch0).readCov L (Rect.unit (s := S1032x512) ![7, 0] ![1024, 512] i7).toLoadRect)
        ((View.whole cc0_scratch0).readCov L (Rect.unit (s := S1032x512) ![6, 0] ![1024, 512] i6).toLoadRect)
        (View.ld (iblk m c 6 t) (Rect.unit ![0, 0] ![1, 512] w0)) (View.ld (iblk m c 6 t) (Rect.unit ![1, 0] ![1, 512] w1))
        (View.ld (iblk m c 6 t) (Rect.unit ![2, 0] ![1, 512] w2))
        (View.ld (iblk m c 2 t) (Rect.unit ![2048, 0] ![512, 1024] inb3)) (ix2 r j)
      = refUc (P m c) (CW m c) (ix2 (row t r) j) := by
  have back : ∀ (o : Nat) (h : 6 ≤ o) (h' : o ≤ 8) (inb), (View.whole cc0_scratch0).readCov L (Rect.unit (s := S1032x512) ![o, 0] ![1024, 512] inb).toLoadRect (ix2 r j)
      = zPad (P m c) (sq t) (t.val % 4 * 1024 + (o + r.val) - 6) j := fun o h h' inb => by
    rw [View.readCov_eq_canon']
    refine Eq.trans (congrArg (View.canon L) (funext fun a => Fin.ext ?_)) (hL ⟨o + r.val, by omega⟩ j (by show 6 ≤ o + r.val; omega))
    refine (ValueKit.rect_emb_unit_val _ _ _ _ _).trans ?_
    match a with
    | ⟨0, _⟩ => rfl
    | ⟨1, _⟩ => exact Nat.zero_add _
  have cw : ∀ (o : Fin 3) (inb), (View.ld (Val := Elt Ideal) (e' := .f32) (iblk m c 6 t) (Rect.unit ![o.val, 0] ![1, 512] inb) : FVec Ideal S1x512 .f32) (ix2 0 j)
      = CW m c (ix3 1 o j) := fun o inb => (ld_at _ o.val inb 0 j o rfl).trans (cw_blk m c t o j)
  refine (pay37_at _ r _ _ _ _ _ _ _ j).trans (Eq.trans ?_
    (Eq.trans (refUc_at (P m c) (CW m c) (sq t) (tok t r) (row t r) j ?_ ?_) (refU_at (P m c) (CW m c) (sq t) (tok t r) j)).symm)
  · refine congrArg₂ (· * ·) (rows_high m c t r 2048 inb3 j _ (by omega) (by omega)
      (by show 1860 + j.val = 1860 + (2048 + j.val - 1856 - 32 - 4 - 156); omega))
      (congrArg₂ (· + ·) (congrArg₂ (· + ·) (congrArg₂ (· * ·) ((back 6 (by omega) (by omega) i6).trans ?_) (cw 0 w0))
        (congrArg₂ (· * ·) ((back 7 (by omega) (by omega) i7).trans ?_) (cw 1 w1))) (congrArg₂ (· * ·) (z_val m c t r j inb1 inb2) (cw 2 w2)))
    · exact congrArg (fun n => zPad (P m c) (sq t) n j) (by show t.val % 4 * 1024 + (6 + r.val) - 6 = t.val % 4 * 1024 + r.val; omega)
    · exact congrArg (fun n => zPad (P m c) (sq t) n j) (by show t.val % 4 * 1024 + (7 + r.val) - 6 = 1 + (t.val % 4 * 1024 + r.val); omega)
  · show t.val / 4 = (t.val * 1024 + r.val) / 4096; omega
  · show t.val % 4 * 1024 + r.val = (t.val * 1024 + r.val) % 4096; omega

/-- The first tile of a sequence has zeros before it. -/
theorem none_before (h : t.val % 4 = 0) (i : Fin 8) (hi : 6 ≤ i.val) (j : Fin 512) :
    k0_pay34 (F := Ideal) (ix2 i j) = zPad (P m c) (sq t) (t.val % 4 * 1024 + i.val - 6) j := by
  refine (pay34_at i j).trans ?_
  unfold zPad
  rw [dif_neg (by omega)]
  show (0 : EReal) = (((0#32 : BitVec 32).toInt : Real) : EReal)
  simp

end Cert.Proj

end
-- ==== Proof.ProjOut3.lean ====
module

public import proofs.«01_k».proof.Proof.ProjOut2

@[expose] public section

set_option maxRecDepth 16384

noncomputable section

open Idealize.ShloMosaic Idealize.ShloMosaic.TcCoe Idealize.SL.Sem Idealize.ShloMosaic.Pipeline

namespace Cert.Proj

open Cert.Kernel2Ideal Cert.Kernel2Ideal.Gen Cert.Tail

variable (m : (ℓ : Loc nD τ sig) → Buf (Elt Ideal) ℓ) (c : Dev nD) (t : Fin cfg0.N) (r : Fin 1024)

/-- After a point the scratch holds that point's factors from row 8 on. -/
theorem carry_at (i : Fin 1032) (hi : i.val = 8 + r.val) (j : Fin 512) :
    (outsAt0 m c t.val t.isLt).2.2.2.2.2.2.2.2 (ix2 i j) = zOf (P m c) (sq t) (tok t r) j := by
  have e : (⟨i.val - 8, by omega⟩ : Fin 1024) = r := Fin.ext (by show i.val - 8 = r.val; omega)
  by_cases h : t.val % 4 = 0
  · rw [outsAt0_A m c t h (not_not.mpr h)]
    frame_out
    refine (held_at _ _ i j _ _).trans ((dif_neg (by omega)).trans ?_)
    rw [e]
    exact (pay36_at _ _ j).trans (z_val m c t r j _ _)
  · rw [outsAt0_B m c t h h]
    frame_out
    refine (held_at _ _ i j _ _).trans ((dif_neg (by omega)).trans ?_)
    rw [e]
    exact (pay36_at _ _ j).trans (z_val m c t r j _ _)

/-- A later tile has the last rows of the tile before. -/
theorem some_before (h : ¬ t.val % 4 = 0) (h' : t.val - 1 < cfg0.N) (hw : (Memref.whole cc0_scratch0).IsWhole) (inb) (i : Fin 8) (hi : 6 ≤ i.val) (j : Fin 512) :
    k0_pay35 (F := Ideal) (View.ld (View.read (Elt Ideal) (View.whole cc0_scratch0)
        (Memref.IsWhole.unread hw (outsAt0 m c (t.val - 1) h').2.2.2.2.2.2.2.2)) (Rect.unit ![1024, 0] ![8, 512] inb)) (ix2 i j)
      = zPad (P m c) (sq t) (t.val % 4 * 1024 + i.val - 6) j := by
  refine (congrArg (fun X : FVec Ideal S1032x512 .f32 => k0_pay35 (F := Ideal)
    (View.ld (Val := Elt Ideal) (e' := .f32) X (Rect.unit ![1024, 0] ![8, 512] inb)) (ix2 i j)) (hw.read_unread _)).trans ?_
  refine (pay35_at _ i j).trans ((ld_at _ 1024 inb i j ⟨1024 + i.val, by omega⟩ rfl).trans ?_)
  refine (carry_at m c ⟨t.val - 1, h'⟩ ⟨1016 + i.val, by omega⟩ _ (by show 1024 + i.val = 8 + (1016 + i.val); omega) j).trans ?_
  unfold zPad zOf
  rw [dif_pos ⟨by omega, by omega⟩]
  have e1 : sq ⟨t.val - 1, h'⟩ = sq t := Fin.ext (by show (t.val - 1) / 4 = t.val / 4; omega)
  have e2 : tok ⟨t.val - 1, h'⟩ ⟨1016 + i.val, by omega⟩ = ⟨t.val % 4 * 1024 + i.val - 6 - 2, by omega⟩ :=
    Fin.ext (by show (t.val - 1) % 4 * 1024 + (1016 + i.val) = t.val % 4 * 1024 + i.val - 6 - 2; omega)
  rw [e1, e2]

theorem out13 (j : Fin 512) :
    (outsAt0 m c t.val t.isLt).2.2.2.2.2.2.1 (ix2 r j) = refUc (P m c) (CW m c) (ix2 (row t r) j) := by
  by_cases h : t.val % 4 = 0
  · rw [outsAt0_A m c t h (not_not.mpr h)]
    frame_out
    exact uc_val m c t r _ (fun i j hi => buf_at m c t _ (fun i hi j => none_before m c t h i hi j) i hi j _ _ _ _) j _ _ _ _ _ _ _ _
  · rw [outsAt0_B m c t h h]
    frame_out
    exact uc_val m c t r _ (fun i j hi => buf_at m c t _ (fun i hi j => some_before m c t h _ _ _ i hi j) i hi j _ _ _ _) j _ _ _ _ _ _ _ _

theorem out7 (j : Fin 512) :
    (outsAt0 m c t.val t.isLt).1 (ix3 0 j r) = refQ (P m c) (ix3 (sq t) j (tok t r)) := by
  have e : (⟨128 * (j.val / 128) + j.val % 128, by omega⟩ : Fin 512) = j := Fin.ext (Nat.div_add_mod ..)
  have hv := fun inb => q_val m c t r ⟨j.val / 128, by omega⟩ ⟨j.val % 128, by omega⟩ inb
  simp only [e] at hv
  by_cases h : t.val % 4 = 0
  · rw [outsAt0_A m c t h (not_not.mpr h)]
    frame_out
    exact hv _
  · rw [outsAt0_B m c t h h]
    frame_out
    exact hv _

theorem out8 (j : Fin 512) :
    (outsAt0 m c t.val t.isLt).2.1 (ix3 0 r j) = refK (P m c) (ix3 (sq t) (tok t r) j) := by
  have e : (⟨128 * (j.val / 128) + j.val % 128, by omega⟩ : Fin 512) = j := Fin.ext (Nat.div_add_mod ..)
  have hv := fun inb => k_val m c t r ⟨j.val / 128, by omega⟩ ⟨j.val % 128, by omega⟩ inb
  simp only [e] at hv
  by_cases h : t.val % 4 = 0
  · rw [outsAt0_A m c t h (not_not.mpr h)]
    frame_out
    exact hv _
  · rw [outsAt0_B m c t h h]
    frame_out
    exact hv _

theorem out10 (j : Fin 256) :
    (outsAt0 m c t.val t.isLt).2.2.2.1 (ix3 0 j r) = refIq (P m c) (ix3 (sq t) j (tok t r)) := by
  have e : (⟨128 * (j.val / 128) + j.val % 128, by omega⟩ : Fin 256) = j := Fin.ext (Nat.div_add_mod ..)
  have hv := fun inb => iq_val m c t r ⟨j.val / 128, by omega⟩ ⟨j.val % 128, by omega⟩ inb
  simp only [e] at hv
  by_cases h : t.val % 4 = 0
  · rw [outsAt0_A m c t h (not_not.mpr h)]
    frame_out
    exact hv _
  · rw [outsAt0_B m c t h h]
    frame_out
    exact hv _

theorem out11 (l : Fin 128) :
    (outsAt0 m c t.val t.isLt).2.2.2.2.1 (ix3 0 r l) = refIkw (P m c) (ix3 (sq t) (tok t r) l) := by
  by_cases h : t.val % 4 = 0
  · rw [outsAt0_A m c t h (not_not.mpr h)]
    frame_out
    exact (pay31_at _ _ r l _ _ _).trans (ikw_val m c t r l _)
  · rw [outsAt0_B m c t h h]
    frame_out
    exact (pay31_at _ _ r l _ _ _).trans (ikw_val m c t r l _)

theorem out12 (l : Fin 128) :
    (outsAt0 m c t.val t.isLt).2.2.2.2.2.1 (ix3 0 l r) = refIkw (P m c) (ix3 (sq t) (tok t r) l) := by
  by_cases h : t.val % 4 = 0
  · rw [outsAt0_A m c t h (not_not.mpr h)]
    frame_out
    exact (pay32_at _ _ r l _ _ _).trans (ikw_val m c t r l _)
  · rw [outsAt0_B m c t h h]
    frame_out
    exact (pay32_at _ _ r l _ _ _).trans (ikw_val m c t r l _)

/-- One of four tiles of values, and one of four blocks of gates, at an index of the whole. -/
theorem tile_step (d : FVec Ideal S1x1x512x256 .bf16) (G : Fin 4 → Fin 512 → Fin 256 → EReal) (k q : Fin 4) (j : Fin 512)
    (l : Fin 256) (e : ∀ j l, d (ix4 0 0 j l) = G k j l) (x : S1x1x512x256.Idx) (h1 : q.val = k.val + (x 1).val)
    (h2 : j.val = (x 2).val) (h3 : l.val = (x 3).val) : d x = G q j l := by
  have x0 : (x 0).val < 1 := (x 0).isLt
  have x1 : (x 1).val < 1 := (x 1).isLt
  obtain rfl : k = q := Fin.ext (by omega)
  refine (congrArg d (funext fun a => Fin.ext ?_)).trans (e j l)
  match a with
  | ⟨0, _⟩ => show (x 0).val = 0; omega
  | ⟨1, _⟩ => show (x 1).val = 0; omega
  | ⟨2, _⟩ => exact h2.symm
  | ⟨3, _⟩ => exact h3.symm

theorem gate_step (d : FVec Ideal S1024x512 .bf16) (G : Fin 1024 → Fin 2048 → EReal) (o : Nat) (ho : o ≤ 1536)
    (e : ∀ r (j : Fin 512), d (ix2 r j) = G r ⟨o + j.val, by omega⟩) (n : Fin 2048) (x : S1024x512.Idx)
    (h0 : r.val = (x 0).val) (h1 : n.val = o + (x 1).val) : d x = G r n := by
  have x1 : (x 1).val < 512 := (x 1).isLt
  refine (congrArg d (funext fun a => Fin.ext ?_)).trans ((e r ⟨n.val - o, by omega⟩).trans (congrArg (G r) (Fin.ext ?_)))
  · match a with
    | ⟨0, _⟩ => exact h0.symm
    | ⟨1, _⟩ => show (x 1).val = n.val - o; omega
  · show o + (n.val - o) = n.val; omega

/-- Four tiles of values beside each other. -/
theorem tiles_at (d3 d2 d1 d0 : FVec Ideal S1x1x512x256 .bf16) (G : Fin 4 → Fin 512 → Fin 256 → EReal)
    (e3 : ∀ j l, d3 (ix4 0 0 j l) = G 3 j l) (e2 : ∀ j l, d2 (ix4 0 0 j l) = G 2 j l)
    (e1 : ∀ j l, d1 (ix4 0 0 j l) = G 1 j l) (e0 : ∀ j l, d0 (ix4 0 0 j l) = G 0 j l)
    (q : Fin 4) (j : Fin 512) (l : Fin 256) :
    View.canon (Val := Elt Ideal) (e := .bf16) (s := S1x4x512x256)
        [⟨Rect.unit ![0, 3, 0, 0] ![1, 1, 512, 256] (by decide), d3⟩, ⟨Rect.unit ![0, 2, 0, 0] ![1, 1, 512, 256] (by decide), d2⟩,
          ⟨Rect.unit ![0, 1, 0, 0] ![1, 1, 512, 256] (by decide), d1⟩, ⟨Rect.unit ![0, 0, 0, 0] ![1, 1, 512, 256] (by decide), d0⟩]
        (ix4 0 q j l) = G q j l := by
  canon_tiles x h
  · exact tile_step d3 G 3 q j l e3 x h1 h2 h3
  · exact tile_step d2 G 2 q j l e2 x h1 h2 h3
  · exact tile_step d1 G 1 q j l e1 x h1 h2 h3
  · exact tile_step d0 G 0 q j l e0 x (h1.trans (Nat.zero_add _).symm) h2 h3

/-- Four blocks of gates beside each other. -/
theorem gates_at (d3 d2 d1 d0 : FVec Ideal S1024x512 .bf16) (G : Fin 1024 → Fin 2048 → EReal)
    (e3 : ∀ r (j : Fin 512), d3 (ix2 r j) = G r ⟨1536 + j.val, by omega⟩)
    (e2 : ∀ r (j : Fin 512), d2 (ix2 r j) = G r ⟨1024 + j.val, by omega⟩)
    (e1 : ∀ r (j : Fin 512), d1 (ix2 r j) = G r ⟨512 + j.val, by omega⟩)
    (e0 : ∀ r (j : Fin 512), d0 (ix2 r j) = G r ⟨0 + j.val, by omega⟩) (n : Fin 2048) :
    View.canon (Val := Elt Ideal) (e := .bf16) (s := S1024x2048)
        [⟨Rect.unit ![0, 1536] ![1024, 512] (by decide), d3⟩, ⟨Rect.unit ![0, 1024] ![1024, 512] (by decide), d2⟩,
          ⟨Rect.unit ![0, 512] ![1024, 512] (by decide), d1⟩, ⟨Rect.unit ![0, 0] ![1024, 512] (by decide), d0⟩] (ix2 r n) = G r n := by
  canon_tiles x h
  · exact gate_step r d3 G 1536 (by omega) e3 n x h0 h1
  · exact gate_step r d2 G 1024 (by omega) e2 n x h0 h1
  · exact gate_step r d1 G 512 (by omega) e1 n x h0 h1
  · exact gate_step r d0 G 0 (by omega) e0 n x h0 (h1.trans (Nat.zero_add _).symm)

theorem out9 (q : Fin 4) (j : Fin 512) (l : Fin 256) :
    (outsAt0 m c t.val t.isLt).2.2.1 (ix4 0 q j l) = refV (P m c) (ix4 (sq t) ⟨t.val % 4 * 4 + q.val, by omega⟩ j l) := by
  by_cases h : t.val % 4 = 0
  · rw [outsAt0_A m c t h (not_not.mpr h)]
    frame_out
    exact tiles_at _ _ _ _ (fun q j l => refV (P m c) (ix4 (sq t) ⟨t.val % 4 * 4 + q.val, by omega⟩ j l))
      (fun j l => (pay25_at _ _ j l).trans (v_val m c t 3 j l _ _ rfl)) (fun j l => (pay24_at _ _ j l).trans (v_val m c t 2 j l _ _ rfl))
      (fun j l => (pay22_at _ _ j l).trans (v_val m c t 1 j l _ _ (by show 256 + l.val = 1 * 256 + l.val; omega)))
      (fun j l => (pay21_at _ _ j l).trans (v_val m c t 0 j l _ _ (by show l.val = 0 * 256 + l.val; omega))) q j l
  · rw [outsAt0_B m c t h h]
    frame_out
    exact tiles_at _ _ _ _ (fun q j l => refV (P m c) (ix4 (sq t) ⟨t.val % 4 * 4 + q.val, by omega⟩ j l))
      (fun j l => (pay25_at _ _ j l).trans (v_val m c t 3 j l _ _ rfl)) (fun j l => (pay24_at _ _ j l).trans (v_val m c t 2 j l _ _ rfl))
      (fun j l => (pay22_at _ _ j l).trans (v_val m c t 1 j l _ _ (by show 256 + l.val = 1 * 256 + l.val; omega)))
      (fun j l => (pay21_at _ _ j l).trans (v_val m c t 0 j l _ _ (by show l.val = 0 * 256 + l.val; omega))) q j l

theorem out14 (n : Fin 2048) :
    (outsAt0 m c t.val t.isLt).2.2.2.2.2.2.2.1 (ix2 r n) = refSg (P m c) (ix2 (row t r) n) := by
  by_cases h : t.val % 4 = 0
  · rw [outsAt0_A m c t h (not_not.mpr h)]
    frame_out
    exact gates_at r _ _ _ _ (fun r n => refSg (P m c) (ix2 (row t r) n))
      (fun r j => (pay4_at _ r _ j).trans (sg_val m c t r 5120 _ j _ (by omega) (by omega) rfl (by omega)))
      (fun r j => (pay3_at _ r _ j).trans (sg_val m c t r 4608 _ j _ (by omega) (by omega) rfl (by omega)))
      (fun r j => (pay2_at _ r _ j).trans (sg_val m c t r 4096 _ j _ (by omega) (by omega) rfl (by omega)))
      (fun r j => (pay1_at _ r _ j).trans (sg_val m c t r 3584 _ j _ (by omega) (by omega) rfl (by omega)))
      n
  · rw [outsAt0_B m c t h h]
    frame_out
    exact gates_at r _ _ _ _ (fun r n => refSg (P m c) (ix2 (row t r) n))
      (fun r j => (pay4_at _ r _ j).trans (sg_val m c t r 5120 _ j _ (by omega) (by omega) rfl (by omega)))
      (fun r j => (pay3_at _ r _ j).trans (sg_val m c t r 4608 _ j _ (by omega) (by omega) rfl (by omega)))
      (fun r j => (pay2_at _ r _ j).trans (sg_val m c t r 4096 _ j _ (by omega) (by omega) rfl (by omega)))
      (fun r j => (pay1_at _ r _ j).trans (sg_val m c t r 3584 _ j _ (by omega) (by omega) rfl (by omega)))
      n

end Cert.Proj

end
-- ==== Proof.ProjFinal.lean ====
module

public import proofs.«01_k».proof.Proof.ProjOut3

@[expose] public section

set_option maxRecDepth 16384

noncomputable section

open Idealize.ShloMosaic Idealize.ShloMosaic.TcCoe Idealize.SL.Sem Idealize.ShloMosaic.Pipeline

namespace Cert.Proj

open Cert.Kernel2Ideal Cert.Kernel2Ideal.Gen Cert.Tail

variable (m : (ℓ : Loc nD τ sig) → Buf (Elt Ideal) ℓ) (c : Dev nD)

/-! ## The results -/

theorem final7 : (dats m 0 c).arrAt 7 (cfgs 0).N = refQ (P m c) := by
  refine (dats m 0 c).arrAt_eq_of_covers 7 _ (by decide +kernel) fun t _ y => ?_
  blk_simp
  rw [after0_7]
  idx_vars y
  obtain rfl : y0 = 0 := Subsingleton.elim (α := Fin 1) _ _
  obtain ⟨h7, h8, h9, h10, h11, h12, h13, h14⟩ := idxO t
  refine (out7 m c t y2 y1).trans (congrArg (refQ (P m c)) ?_)
  blk_ext [h7]

theorem final8 : (dats m 0 c).arrAt 8 (cfgs 0).N = refK (P m c) := by
  refine (dats m 0 c).arrAt_eq_of_covers 8 _ (by decide +kernel) fun t _ y => ?_
  blk_simp
  rw [after0_8]
  idx_vars y
  obtain rfl : y0 = 0 := Subsingleton.elim (α := Fin 1) _ _
  obtain ⟨h7, h8, h9, h10, h11, h12, h13, h14⟩ := idxO t
  refine (out8 m c t y1 y2).trans (congrArg (refK (P m c)) ?_)
  blk_ext [h8]

theorem final9 : (dats m 0 c).arrAt 9 (cfgs 0).N = refV (P m c) := by
  refine (dats m 0 c).arrAt_eq_of_covers 9 _ (by decide +kernel) fun t _ y => ?_
  blk_simp
  rw [after0_9]
  idx_vars y
  obtain rfl : y0 = 0 := Subsingleton.elim (α := Fin 1) _ _
  obtain ⟨h7, h8, h9, h10, h11, h12, h13, h14⟩ := idxO t
  refine (out9 m c t y1 y2 y3).trans (congrArg (refV (P m c)) ?_)
  blk_ext [h9]

theorem final10 : (dats m 0 c).arrAt 10 (cfgs 0).N = refIq (P m c) := by
  refine (dats m 0 c).arrAt_eq_of_covers 10 _ (by decide +kernel) fun t _ y => ?_
  blk_simp
  rw [after0_10]
  idx_vars y
  obtain rfl : y0 = 0 := Subsingleton.elim (α := Fin 1) _ _
  obtain ⟨h7, h8, h9, h10, h11, h12, h13, h14⟩ := idxO t
  refine (out10 m c t y2 y1).trans (congrArg (refIq (P m c)) ?_)
  blk_ext [h10]

theorem final11 : (dats m 0 c).arrAt 11 (cfgs 0).N = refIkwB (P m c) := by
  refine (dats m 0 c).arrAt_eq_of_covers 11 _ (by decide +kernel) fun t _ y => ?_
  blk_simp
  rw [after0_11]
  idx_vars y
  obtain rfl : y0 = 0 := Subsingleton.elim (α := Fin 1) _ _
  obtain ⟨h7, h8, h9, h10, h11, h12, h13, h14⟩ := idxO t
  refine ((out11 m c t y1 y2).trans (refIkwB_at _ _ _ y2).symm).trans (congrArg (refIkwB (P m c)) ?_)
  blk_ext [h11]

theorem final12 : (dats m 0 c).arrAt 12 (cfgs 0).N = refIkwT (P m c) := by
  refine (dats m 0 c).arrAt_eq_of_covers 12 _ (by decide +kernel) fun t _ y => ?_
  blk_simp
  rw [after0_12]
  idx_vars y
  obtain rfl : y0 = 0 := Subsingleton.elim (α := Fin 1) _ _
  obtain ⟨h7, h8, h9, h10, h11, h12, h13, h14⟩ := idxO t
  refine ((out12 m c t y2 y1).trans (refIkwT_at _ _ _ y1).symm).trans (congrArg (refIkwT (P m c)) ?_)
  blk_ext [h12]

theorem final13 : (dats m 0 c).arrAt 13 (cfgs 0).N = refUc (P m c) (CW m c) := by
  refine (dats m 0 c).arrAt_eq_of_covers 13 _ (by decide +kernel) fun t _ y => ?_
  blk_simp
  rw [after0_13]
  idx_vars y
  obtain ⟨h7, h8, h9, h10, h11, h12, h13, h14⟩ := idxO t
  refine (out13 m c t y0 y1).trans (congrArg (refUc (P m c) (CW m c)) ?_)
  blk_ext [h13]

theorem final14 : (dats m 0 c).arrAt 14 (cfgs 0).N = refSg (P m c) := by
  refine (dats m 0 c).arrAt_eq_of_covers 14 _ (by decide +kernel) fun t _ y => ?_
  blk_simp
  rw [after0_14]
  idx_vars y
  obtain ⟨h7, h8, h9, h10, h11, h12, h13, h14⟩ := idxO t
  refine (out14 m c t y0 y1).trans (congrArg (refSg (P m c)) ?_)
  blk_ext [h14]

end Cert.Proj

end
-- ==== Proof.ProjKern.lean ====
module

public import proofs.«01_k».proof.Proof.ProjFinal

@[expose] public section

set_option maxRecDepth 16384

noncomputable section

open Idealize.ShloMosaic Idealize.ShloMosaic.TcCoe Idealize.SL.Sem Idealize.ShloMosaic.Pipeline

namespace Cert.Proj

open Cert.Kernel2Ideal Cert.Kernel2Ideal.Gen Cert.Tail

variable (m : (ℓ : Loc nD τ sig) → Buf (Elt Ideal) ℓ)

/-! ## Each result of the run -/

variable {m} {r : PUnit × MemSt nD τ sig (Elt Ideal)} (h : Pipeline.FramePost cfgs (dats m) 0 (V m) r) (c : Dev nD)
include h

theorem mem7 : r.2.mem ((c.tc : Thread nD τ).loc main_v47_0) = refQ (P m c) :=
  ((h c).1 7).trans (final7 m c)
theorem mem8 : r.2.mem ((c.tc : Thread nD τ).loc main_v47_1) = refK (P m c) :=
  ((h c).1 8).trans (final8 m c)
theorem mem9 : r.2.mem ((c.tc : Thread nD τ).loc main_v47_2) = refV (P m c) :=
  ((h c).1 9).trans (final9 m c)
theorem mem10 : r.2.mem ((c.tc : Thread nD τ).loc main_v47_3) = refIq (P m c) :=
  ((h c).1 10).trans (final10 m c)
theorem mem11 : r.2.mem ((c.tc : Thread nD τ).loc main_v47_4) = refIkwB (P m c) :=
  ((h c).1 11).trans (final11 m c)
theorem mem12 : r.2.mem ((c.tc : Thread nD τ).loc main_v47_5) = refIkwT (P m c) :=
  ((h c).1 12).trans (final12 m c)
theorem mem13 : r.2.mem ((c.tc : Thread nD τ).loc main_v47_6) = refUc (P m c) (CW m c) :=
  ((h c).1 13).trans (final13 m c)
theorem mem14 : r.2.mem ((c.tc : Thread nD τ).loc main_v47_7) = refSg (P m c) :=
  ((h c).1 14).trans (final14 m c)

omit h
variable (m)

/-- The kernel's run, its results by name. -/
theorem kern_run (g : Dev nD → PrngReg) :
    θ_run (Cert.Kernel2Ideal.defs (F := Ideal)) (onTc (τ := τ) (Cert.Kernel2Ideal.main (F := Ideal))) ⟨m, fun _ => 0, g⟩ fun r => ∀ c : Dev nD,
      r.2.mem ((c.tc : Thread nD τ).loc main_v47_0) = refQ (P m c)
      ∧ r.2.mem ((c.tc : Thread nD τ).loc main_v47_1) = refK (P m c)
      ∧ r.2.mem ((c.tc : Thread nD τ).loc main_v47_2) = refV (P m c)
      ∧ r.2.mem ((c.tc : Thread nD τ).loc main_v47_3) = refIq (P m c)
      ∧ r.2.mem ((c.tc : Thread nD τ).loc main_v47_4) = refIkwB (P m c)
      ∧ r.2.mem ((c.tc : Thread nD τ).loc main_v47_5) = refIkwT (P m c)
      ∧ r.2.mem ((c.tc : Thread nD τ).loc main_v47_6) = refUc (P m c) (CW m c)
      ∧ r.2.mem ((c.tc : Thread nD τ).loc main_v47_7) = refSg (P m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (θ_run_and (run_main m g) (unchanged m g))
  exact ⟨mem7 h.1 c, mem8 h.1 c, mem9 h.1 c, mem10 h.1 c, mem11 h.1 c, mem12 h.1 c, mem13 h.1 c, mem14 h.1 c, h.2 c⟩

end Cert.Proj

end
-- ==== Proof.ProjRun.lean ====
module

public import proofs.«01_k».proof.Proof.ProjRefAt
public import proofs.«01_k».proof.Proof.Gen.Reference2Ideal.Run

@[expose] public section

set_option maxRecDepth 16384

noncomputable section

open Idealize.ShloMosaic Idealize.ShloMosaic.TcCoe Idealize.SL.Sem

namespace Cert.Proj

open Cert.Reference2Ideal Cert.Reference2Ideal.Gen Cert.Tail

variable (m : (ℓ : Loc nD τ sig) → Buf (Elt Ideal) ℓ) (c : Dev nD)

/-- The reference's projection of its argument arrays. -/
abbrev RP : FVec Ideal S4x4096x5444 .f32 :=
  refProj (m ((c.tc : Thread nD τ).loc main_arg0)) (m ((c.tc : Thread nD τ).loc main_arg1)) (m ((c.tc : Thread nD τ).loc main_arg2))

/-- The reference's run, its results by name. -/
theorem ref_run (g : Dev nD → PrngReg) :
    θ_run (Cert.Reference2Ideal.defs (F := Ideal)) (onTc (τ := τ) (Cert.Reference2Ideal.main (F := Ideal))) ⟨m, fun _ => 0, g⟩ fun r => ∀ c : Dev nD,
      r.2.mem ((c.tc : Thread nD τ).loc main_v160) = refQ (RP m c)
      ∧ r.2.mem ((c.tc : Thread nD τ).loc main_v161) = refK (RP m c)
      ∧ r.2.mem ((c.tc : Thread nD τ).loc main_v164) = refV (RP m c)
      ∧ r.2.mem ((c.tc : Thread nD τ).loc main_v166) = refIq (RP m c)
      ∧ r.2.mem ((c.tc : Thread nD τ).loc main_v167) = refIkwB (RP m c)
      ∧ r.2.mem ((c.tc : Thread nD τ).loc main_v168) = refIkwT (RP m c)
      ∧ r.2.mem ((c.tc : Thread nD τ).loc main_v170) = refUc (RP m c) (m ((c.tc : Thread nD τ).loc main_arg3))
      ∧ r.2.mem ((c.tc : Thread nD τ).loc main_v172) = refSg (RP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (Cert.Reference2Ideal.Value.run (F := Ideal) m g)
  obtain ⟨h0, h1, h2, h3, h4, h5, h6, h7, ha⟩ := h c
  exact ⟨h0, h1, h2, h3, h4, h5, h6, h7, ha⟩

end Cert.Proj

end
-- ==== Proof.WArr.lean ====
module

public import proofs.«01_k».proof.Proof.Gen.Kernel3Ideal.Frame
public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic

@[expose] public section

set_option maxRecDepth 16384

noncomputable section

namespace Cert.Warr

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-! ## What the body leaves in the output block -/

abbrev rIn : Rect S1x512x1024 := Rect.unit (s := S1x512x1024) ![0, 0, 0] S1x512x1024.size inb_S1x512x1024_S1x512x1024_0_0_0
abbrev rOut : Rect S512x1024 := Rect.unit (s := S512x1024) ![0, 0] S512x1024.size inb_S512x1024_S512x1024_0_0
abbrev rGate : Rect S512x1024 := Rect.unit (s := S512x1024) ![320, 0] S16x1024.size inb_S512x1024_S16x1024_320_0
abbrev rIq : Rect S512x1024 := Rect.unit (s := S512x1024) ![0, 0] S256x1024.size inb_S512x1024_S256x1024_0_0
abbrev rIk : Rect S512x1024 := Rect.unit (s := S512x1024) ![256, 0] S64x1024.size inb_S512x1024_S64x1024_256_0
abbrev rCol0 : Rect S512x1024 := Rect.unit (s := S512x1024) ![0, 0] S512x256.size inb_S512x1024_S512x256_0_0
abbrev rCol1 : Rect S512x1024 := Rect.unit (s := S512x1024) ![0, 256] S512x256.size inb_S512x1024_S512x256_0_256
abbrev rCol2 : Rect S512x1024 := Rect.unit (s := S512x1024) ![0, 512] S512x256.size inb_S512x1024_S512x256_0_512
abbrev rCol3 : Rect S512x1024 := Rect.unit (s := S512x1024) ![0, 768] S512x256.size inb_S512x1024_S512x256_0_768

/-- A staged block as a matrix. -/
abbrev flat (x : Vec F S1x512x1024 .bf16) : Vec F S512x1024 .bf16 :=
  shapeCast S512x1024 (View.ld x rIn) squeezes_S1x512x1024_S512x1024.numel_eq

/-- The first three blocks: copied. -/
def outCopy (x0 : Vec F S1x512x1024 .bf16) : Vec F S512x1024 .bf16 :=
  View.canon [⟨rOut, k0_pay1 (View.ld x0 rIn)⟩]
/-- The fourth block: the indexer's rows with the padding between them. -/
def outPad (x0 : Vec F S1x512x1024 .bf16) : Vec F S512x1024 .bf16 :=
  View.canon [⟨rOut, k0_pay2 (View.ld (flat x0) rGate) (View.ld (flat x0) rIq) (View.ld (flat x0) rIk)⟩]
/-- The later blocks: rows of two neighbouring blocks, moved up. -/
def outRoll (x0 x1 : Vec F S1x512x1024 .bf16) : Vec F S512x1024 .bf16 :=
  View.canon [⟨rCol3, k0_pay4 (View.ld (flat x0) rCol3) (View.ld (flat x1) rCol3)⟩,
    ⟨rCol2, k0_pay3 (View.ld (flat x0) rCol2) (View.ld (flat x1) rCol2)⟩,
    ⟨rCol1, k0_pay6 (View.ld (flat x0) rCol1) (View.ld (flat x1) rCol1)⟩,
    ⟨rCol0, k0_pay5 (View.ld (flat x0) rCol0) (View.ld (flat x1) rCol0)⟩]

theorem coverOne (p : Vec F S512x1024 .bf16) (y : S512x1024.Idx) :
    ∃ pc ∈ ([⟨rOut, p⟩] : List (View.Piece (Elt F) S512x1024 .bf16)), y ∈ pc.1.set :=
  View.cover_of_tiled [⟨rOut, p⟩] S512x1024.size (by rfl) y

theorem coverCols (p3 p2 p1 p0 : Vec F S512x256 .bf16) (y : S512x1024.Idx) :
    ∃ pc ∈ ([⟨rCol3, p3⟩, ⟨rCol2, p2⟩, ⟨rCol1, p1⟩, ⟨rCol0, p0⟩] : List (View.Piece (Elt F) S512x1024 .bf16)), y ∈ pc.1.set :=
  View.cover_of_tiled [⟨rCol3, p3⟩, ⟨rCol2, p2⟩, ⟨rCol1, p1⟩, ⟨rCol0, p0⟩] S512x256.size (by rfl) y

/-! ## The body -/

/-- The output block of the body at grid position `i`. -/
def outAt (i : grid0.Coords) (x0 x1 : Vec F S1x512x1024 .bf16) : Vec F S512x1024 .bf16 :=
  if k0_cond1 i = 1#1 then outCopy x0 else if k0_cond2 i = 1#1 then outPad x0 else outRoll x0 x1

/-- One of the three branches runs at each grid position, and no other. -/
theorem branch : ∀ i : grid0.Coords, (k0_cond1 i = 1#1 ∧ ¬ k0_cond2 i = 1#1 ∧ ¬ k0_cond3 i = 1#1)
    ∨ (¬ k0_cond1 i = 1#1 ∧ k0_cond2 i = 1#1 ∧ ¬ k0_cond3 i = 1#1)
    ∨ (¬ k0_cond1 i = 1#1 ∧ ¬ k0_cond2 i = 1#1 ∧ k0_cond3 i = 1#1) := by decide +kernel

set_option maxHeartbeats 2000000 in
/-- The body on whole staging buffers leaves the inputs as they were and the output block at `outAt`. -/
theorem sound_kernel (c : Dev nD) (E : Set ℕ) (i : grid0.Coords) (arg1 : Memref sig .tc .vmem S1x512x1024 .bf16) (harg1 : arg1.IsWhole)
    (arg2 : Memref sig .tc .vmem S1x512x1024 .bf16) (harg2 : arg2.IsWhole) (arg3 : Memref sig .tc .vmem S512x1024 .bf16) (harg3 : arg3.IsWhole)
    (x0 x1 : Vec F S1x512x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outAt i x0 x1)) -∗ K ⟨⟩))
      ⊢ wp frame (wpE (defs₀ (F := F)) Variants.none c none) E (cc0_w_arrange i arg1 harg1 arg2 harg2 arg3 harg3) K := by
  simp only [cc0_w_arrange_eq_skeleton]; unfold cc0_w_arrange_skel
  simp only [k0_part1_eq_skeleton]
  unfold owns
  iintro ⟨⟨%f0, %hf0, H0⟩, ⟨%f1, %hf1, H1⟩, ⟨%d2, %f2, -, H2⟩, Hk⟩
  subst hf0 hf1
  rcases branch i with ⟨h1, h2, h3⟩ | ⟨h1, h2, h3⟩ | ⟨h1, h2, h3⟩
  all_goals
    sl_exec (disch := first | sl_exact h1 | sl_exact h2 | sl_exact h3)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    unfold outAt
  · rw [if_pos h1]
    exact View.read_writes_eq_canon _ _ _ (coverOne _)
  · rw [if_neg h1, if_pos h2]
    exact View.read_writes_eq_canon _ _ _ (coverOne _)
  · rw [if_neg h1, if_neg h2]
    exact View.read_writes_eq_canon _ _ _ (coverCols _ _ _ _)

end Cert.Warr

end
-- ==== Proof.WArrAt.lean ====
module

public import proofs.«01_k».proof.Proof.WArr

@[expose] public section

set_option maxRecDepth 16384

noncomputable section

namespace Cert.Warr

open Cert.Kernel3Ideal Cert.Kernel3Ideal.Gen
open Idealize.ShloMosaic Idealize.ShloMosaic.TcCoe Idealize.SL.Sem Idealize.ShloMosaic.Pipeline

variable {F : FTy → Type} [FloatOps F]

/-! ## The output block, entry by entry -/

section
variable (x0 x1 : Vec F S1x512x1024 .bf16) (r : Fin 512) (k : Fin 1024)

theorem flat_at : flat x0 (ix2 r k) = x0 (ix3 0 r k) := by
  unfold flat
  pointwise []

theorem outCopy_at : outCopy x0 (ix2 r k) = x0 (ix3 0 r k) := by
  unfold outCopy
  frame_out
  pointwise [k0_pay1]

/-- The zero of the padding rows. -/
abbrev zeroB : Elt F .bf16 := (Scalar.ofBits .bf16 0x0000#16 : F .bf16)

theorem gate_bit (n : Nat) (h : n < 16) : IntOp.cmpi .slt (BitVec.ofNat 32 n) 4#32 = if n < 4 then 1#1 else 0#1 := by
  revert n; decide

theorem outPad_at : outPad x0 (ix2 r k) =
    if r.val < 320 then x0 (ix3 0 r k)
    else if r.val < 352 then zeroB
    else if h : r.val < 368 then
      (FloatOps.truncf .bf16 bitsLt_bf16_f32 (if r.val < 356 then FloatOps.extf .f32 bitsLt_bf16_f32 (x0 (ix3 0 ⟨r.val - 32, by omega⟩ k) : F .bf16)
        else (Scalar.ofBits .f32 0x00000000#32 : F .f32)) : F .bf16)
    else zeroB := by
  unfold outPad
  frame_out
  pointwise [k0_pay2, flat_at]
  by_cases h1 : r.val < 256
  · rw [dif_pos h1, if_pos (show r.val < 320 by omega)]
  rw [dif_neg h1]
  by_cases h2 : r.val < 320
  · rw [dif_pos (show r.val - 256 < 64 by omega), if_pos h2]
    exact congrArg (fun n => x0 (ix3 0 n k)) (Fin.ext (show 256 + (r.val - 256) = r.val by omega))
  rw [dif_neg (show ¬ r.val - 256 < 64 by omega), if_neg h2]
  by_cases h3 : r.val < 352
  · rw [dif_pos (show r.val - 256 - 64 < 32 by omega), if_pos h3]
  rw [dif_neg (show ¬ r.val - 256 - 64 < 32 by omega), if_neg h3]
  by_cases h4 : r.val < 368
  · rw [dif_pos (show r.val - 256 - 64 - 32 < 16 by omega), dif_pos h4, gate_bit _ (by omega)]
    by_cases h5 : r.val < 356
    · rw [if_pos (show r.val - 256 - 64 - 32 < 4 by omega), if_pos h5]
      refine (congrArg (FloatOps.truncf .bf16 bitsLt_bf16_f32) (if_pos rfl)).trans ?_
      exact congrArg (fun n => FloatOps.truncf .bf16 bitsLt_bf16_f32 (FloatOps.extf .f32 bitsLt_bf16_f32 (x0 (ix3 0 n k) : F .bf16)))
        (Fin.ext (show 320 + (r.val - 256 - 64 - 32) = r.val - 32 by omega))
    · rw [if_neg (show ¬ r.val - 256 - 64 - 32 < 4 by omega), if_neg h5]
      exact congrArg (FloatOps.truncf .bf16 bitsLt_bf16_f32) (if_neg (by decide))
  · rw [dif_neg (show ¬ r.val - 256 - 64 - 32 < 16 by omega), dif_neg h4]

/-- Rows `324 …` of two stacked blocks: one of the two, by the row. -/
abbrev rolled (a b : Fin 512 → Elt F .bf16) (r : Fin 512) : Elt F .bf16 :=
  (FloatOps.truncf .bf16 bitsLt_bf16_f32 (FloatOps.extf .f32 bitsLt_bf16_f32
    (if h : r.val < 188 then a ⟨r.val + 324, by omega⟩ else b ⟨r.val - 188, by omega⟩ : F .bf16) : F .f32) : F .bf16)

theorem rot_at (a b : Fin 512 → Elt F .bf16) (h : (r.val + 1024 - 700) % 1024 < 512 → (r.val + 1024 - 700) % 1024 < 512)
    (h' : ¬ (r.val + 1024 - 700) % 1024 < 512 → (r.val + 1024 - 700) % 1024 - 512 < 512) :
    FloatOps.truncf .bf16 bitsLt_bf16_f32 (if g : (r.val + 1024 - 700) % 1024 < 512 then
        FloatOps.extf .f32 bitsLt_bf16_f32 (a ⟨(r.val + 1024 - 700) % 1024, h g⟩ : F .bf16)
      else FloatOps.extf .f32 bitsLt_bf16_f32 (b ⟨(r.val + 1024 - 700) % 1024 - 512, h' g⟩ : F .bf16)) = rolled a b r := by
  unfold rolled
  by_cases g : r.val < 188
  · rw [dif_pos (show (r.val + 1024 - 700) % 1024 < 512 by omega), dif_pos g]
    exact congrArg (fun n => FloatOps.truncf .bf16 bitsLt_bf16_f32 (FloatOps.extf .f32 bitsLt_bf16_f32 (a n : F .bf16)))
      (Fin.ext (show (r.val + 1024 - 700) % 1024 = r.val + 324 by omega))
  · rw [dif_neg (show ¬ (r.val + 1024 - 700) % 1024 < 512 by omega), dif_neg g]
    exact congrArg (fun n => FloatOps.truncf .bf16 bitsLt_bf16_f32 (FloatOps.extf .f32 bitsLt_bf16_f32 (b n : F .bf16)))
      (Fin.ext (show (r.val + 1024 - 700) % 1024 - 512 = r.val - 188 by omega))

theorem pay5_at (a b : Vec F S512x256 .bf16) (l : Fin 256) :
    k0_pay5 a b (ix2 r l) = rolled (fun n => a (ix2 n l)) (fun n => b (ix2 n l)) r := by
  pointwise [k0_pay5]
  exact rot_at r (fun n => a (ix2 n l)) (fun n => b (ix2 n l)) _ _

theorem ld_flat (o : Nat) (inb) (n : Fin 512) (l : Fin 256) (k : Fin 1024) (h : k.val = o + l.val) (x : Vec F S1x512x1024 .bf16) :
    (View.ld (flat x) (Rect.unit (s := S512x1024) ![0, o] S512x256.size inb) : S512x256.Idx → Elt F .bf16) (ix2 n l) = x (ix3 0 n k) := by
  refine Eq.trans (congrArg (flat x) (funext fun a => Fin.ext ?_)) (flat_at x n k)
  refine (ValueKit.rect_emb_unit_val _ _ _ _ _).trans ?_
  match a with
  | ⟨0, _⟩ => exact Nat.zero_add _
  | ⟨1, _⟩ => exact h.symm

theorem piece (o : Nat) (inb) (x : S512x256.Idx) (y : S512x1024.Idx) (hy : y = (Rect.unit (s := S512x1024) ![0, o] S512x256.size inb).emb x) :
    k0_pay5 (View.ld (flat x0) (Rect.unit (s := S512x1024) ![0, o] S512x256.size inb))
        (View.ld (flat x1) (Rect.unit (s := S512x1024) ![0, o] S512x256.size inb)) x
      = rolled (fun n => x0 (ix3 0 n (y 1))) (fun n => x1 (ix3 0 n (y 1))) (y 0) := by
  obtain ⟨a, l, rfl⟩ : ∃ (a : Fin 512) (l : Fin 256), x = ix2 a l :=
    ⟨x 0, x 1, funext fun i => by match i with | ⟨0, _⟩ => rfl | ⟨1, _⟩ => rfl⟩
  have e0 : y 0 = a := Fin.ext (by rw [hy]; exact (ValueKit.rect_emb_unit_val _ _ _ _ _).trans (Nat.zero_add _))
  have e1 : (y 1).val = o + l.val := by rw [hy]; exact ValueKit.rect_emb_unit_val _ _ _ _ _
  rw [pay5_at, e0]
  exact congrArg₂ (fun f g => rolled f g a) (funext fun n => ld_flat o inb n l (y 1) e1 x0) (funext fun n => ld_flat o inb n l (y 1) e1 x1)

theorem outRoll_at : outRoll x0 x1 (ix2 r k) = rolled (fun n => x0 (ix3 0 n k)) (fun n => x1 (ix3 0 n k)) r := by
  refine View.canon_apply_of_pieces (fun j : S512x1024.Idx => rolled (fun n => x0 (ix3 0 n (j 1))) (fun n => x1 (ix3 0 n (j 1))) (j 0)) _ ?_ (ix2 r k)
    (coverCols _ _ _ _ _)
  intro p hp
  simp only [List.mem_cons, List.not_mem_nil, or_false] at hp
  rcases hp with rfl | rfl | rfl | rfl
  · exact fun x => piece x0 x1 768 _ x _ rfl
  · exact fun x => piece x0 x1 512 _ x _ rfl
  · exact fun x => piece x0 x1 256 _ x _ rfl
  · exact fun x => piece x0 x1 0 _ x _ rfl
end

/-! ## The staged blocks -/

theorem idx : ∀ t : Fin cfg0.N, win0_0.index t = ![1, if t.val ≤ 3 then t.val else t.val - 1, 0]
    ∧ win0_1.index t = ![1, if t.val ≤ 3 then 0 else t.val, 0] ∧ win0_2.index t = ![t.val, 0] ∧ t.val < 11 :=
  (by decide +kernel : ∀ t : Fin grid0.N, _)

theorem read0 (X : S2x5444x1024.Idx → Elt F .bf16) (t : Fin cfg0.N) (y : ((cfg0.win 0).xblock (cfg0.grid.coords t)).Idx)
    (n : Fin 5444) (k : Fin 1024) (hn : n.val = (if t.val ≤ 3 then t.val else t.val - 1) * 512 + (y 1).val) (hk : k.val = (y 2).val) :
    ((cfg0.win 0).blk t).view.read (Elt F) X y = X (ix3 1 n k) := by
  obtain ⟨h0, -, -, ht⟩ := idx t
  refine congrArg X (funext fun a => Fin.ext ?_)
  refine (ValueKit.rect_emb_unit_val _ _ _ _ _).trans ?_
  match a with
  | ⟨0, _⟩ =>
    have hy : (y 0).val < 1 := (y 0).isLt.trans_le ((cfg0.win 0).xsize_le (cfg0.grid.coords t) 0)
    show win0_0.index t 0 * 1 + (y 0).val = 1
    rw [h0]
    show 1 * 1 + (y 0).val = 1
    omega
  | ⟨1, _⟩ =>
    show win0_0.index t 1 * 512 + (y 1).val = n.val
    rw [h0]
    exact hn.symm
  | ⟨2, _⟩ =>
    show win0_0.index t 2 * 1024 + (y 2).val = k.val
    rw [h0, hk]
    exact (congrArg (· + _) (Nat.zero_mul 1024)).trans (Nat.zero_add _)

theorem read1 (X : S2x5444x1024.Idx → Elt F .bf16) (t : Fin cfg0.N) (y : ((cfg0.win 1).xblock (cfg0.grid.coords t)).Idx)
    (n : Fin 5444) (k : Fin 1024) (hn : n.val = (if t.val ≤ 3 then 0 else t.val) * 512 + (y 1).val) (hk : k.val = (y 2).val) :
    ((cfg0.win 1).blk t).view.read (Elt F) X y = X (ix3 1 n k) := by
  obtain ⟨-, h1, -, ht⟩ := idx t
  refine congrArg X (funext fun a => Fin.ext ?_)
  refine (ValueKit.rect_emb_unit_val _ _ _ _ _).trans ?_
  match a with
  | ⟨0, _⟩ =>
    have hy : (y 0).val < 1 := (y 0).isLt.trans_le ((cfg0.win 1).xsize_le (cfg0.grid.coords t) 0)
    show win0_1.index t 0 * 1 + (y 0).val = 1
    rw [h1]
    show 1 * 1 + (y 0).val = 1
    omega
  | ⟨1, _⟩ =>
    show win0_1.index t 1 * 512 + (y 1).val = n.val
    rw [h1]
    exact hn.symm
  | ⟨2, _⟩ =>
    show win0_1.index t 2 * 1024 + (y 2).val = k.val
    rw [h1, hk]
    exact (congrArg (· + _) (Nat.zero_mul 1024)).trans (Nat.zero_add _)

/-- How much of window 1's block a fetch moves: all of it, but for the last block, of which it moves the rows inside
    the array. -/
theorem xsize1 : ∀ t : Fin cfg0.N, (cfg0.win 1).xsize (cfg0.grid.coords t) 0 = 1
    ∧ (cfg0.win 1).xsize (cfg0.grid.coords t) 1 = min 512 (5444 - (if t.val ≤ 3 then 0 else t.val) * 512)
    ∧ (cfg0.win 1).xsize (cfg0.grid.coords t) 2 = 1024 :=
  (by decide +kernel : ∀ t : Fin grid0.N, _)

theorem staged0 (X : S2x5444x1024.Idx → Elt F .bf16) (t : Fin cfg0.N) (d) (r : Fin 512) (k : Fin 1024) (n : Fin 5444)
    (hn : n.val = (if t.val ≤ 3 then t.val else t.val - 1) * 512 + r.val) :
    (cfg0.win 0).fill (cfg0.grid.coords t) d (((cfg0.win 0).blk t).view.read (Elt F) X) (ix3 (0 : Fin 1) r k) = X (ix3 1 n k) := by
  unfold Window.fill
  rw [dif_pos (moved0_0 t _)]
  exact read0 X t _ n k hn rfl

theorem staged1 (X : S2x5444x1024.Idx → Elt F .bf16) (t : Fin cfg0.N) (d) (r : Fin 512) (k : Fin 1024) (n : Fin 5444)
    (hn : n.val = (if t.val ≤ 3 then 0 else t.val) * 512 + r.val) :
    (cfg0.win 1).fill (cfg0.grid.coords t) d (((cfg0.win 1).blk t).view.read (Elt F) X) (ix3 (0 : Fin 1) r k) = X (ix3 1 n k) := by
  obtain ⟨e0, e1, e2⟩ := xsize1 t
  have hm : (cfg0.win 1).moved (cfg0.grid.coords t) (ix3 (0 : Fin 1) r k) = true := ((cfg0.win 1).moved_iff _ _).mpr fun a => by
    match a with
    | ⟨0, _⟩ => exact Nat.lt_of_lt_of_eq Nat.zero_lt_one e0.symm
    | ⟨1, _⟩ => exact Nat.lt_of_lt_of_eq (show r.val < _ by have := n.isLt; have := r.isLt; omega) e1.symm
    | ⟨2, _⟩ => exact Nat.lt_of_lt_of_eq k.isLt e2.symm
  unfold Window.fill
  rw [dif_pos hm]
  exact read1 X t _ n k hn rfl

/-! ## The arranged rows -/

/-- Row `n` of the arranged weight, from the layer's rows `X 1`. -/
def arrRow (X : S2x5444x1024.Idx → Elt F .bf16) (n : Fin 5632) (k : Fin 1024) : Elt F .bf16 :=
  if h : n.val < 1856 then X (ix3 1 ⟨n.val, by omega⟩ k)
  else if n.val < 1888 then zeroB
  else if h : n.val < 1904 then
    (FloatOps.truncf .bf16 bitsLt_bf16_f32 (if n.val < 1892 then FloatOps.extf .f32 bitsLt_bf16_f32 (X (ix3 1 ⟨n.val - 32, by omega⟩ k) : F .bf16)
      else (Scalar.ofBits .f32 0x00000000#32 : F .f32)) : F .bf16)
  else if n.val < 2048 then zeroB
  else (FloatOps.truncf .bf16 bitsLt_bf16_f32 (FloatOps.extf .f32 bitsLt_bf16_f32 (X (ix3 1 ⟨n.val - 188, by omega⟩ k) : F .bf16) : F .f32) : F .bf16)
/-- The arranged weight. -/
def arrA (X : S2x5444x1024.Idx → Elt F .bf16) : S5632x1024.Idx → Elt F .bf16 := fun j => arrRow X (j 0) (j 1)

/-- Which branch runs at each point. -/
theorem cond : ∀ t : Fin cfg0.N, (k0_cond1 (grid0.coords t) = 1#1 ↔ t.val < 3) ∧ (k0_cond2 (grid0.coords t) = 1#1 ↔ t.val = 3) :=
  (by decide +kernel : ∀ t : Fin grid0.N, _)

/-- The output block of point `t` on the staged blocks is rows `512 t` to `512 t + 511` of the arranged weight,
    whatever the staging buffers hold past the array's end. -/
theorem outAt_eq (X : S2x5444x1024.Idx → Elt F .bf16) (t : Fin cfg0.N) (x0 x1 : Vec F S1x512x1024 .bf16) (d0 d1)
    (h0 : x0 = (cfg0.win 0).fill (cfg0.grid.coords t) d0 (((cfg0.win 0).blk t).view.read (Elt F) X))
    (h1 : x1 = (cfg0.win 1).fill (cfg0.grid.coords t) d1 (((cfg0.win 1).blk t).view.read (Elt F) X))
    (r : Fin 512) (k : Fin 1024) (n : Fin 5632) (hn : n.val = t.val * 512 + r.val) :
    outAt (grid0.coords t) x0 x1 (ix2 r k) = arrRow X n k := by
  obtain ⟨-, -, -, ht⟩ := idx t
  obtain ⟨c1, c2⟩ := cond t
  have hr := r.isLt
  unfold outAt arrRow
  by_cases g1 : t.val < 3
  · rw [if_pos (c1.mpr g1), outCopy_at, dif_pos (show n.val < 1856 by omega), h0]
    exact staged0 X t d0 r k _ (by rw [if_pos (show t.val ≤ 3 by omega)]; exact hn)
  rw [if_neg (mt c1.mp g1)]
  by_cases g2 : t.val = 3
  · rw [if_pos (c2.mpr g2), outPad_at]
    have e : t.val ≤ 3 := by omega
    by_cases a1 : r.val < 320
    · rw [if_pos a1, dif_pos (show n.val < 1856 by omega), h0]
      exact staged0 X t d0 r k _ (by rw [if_pos e]; exact hn)
    rw [if_neg a1, dif_neg (show ¬ n.val < 1856 by omega)]
    by_cases a2 : r.val < 352
    · rw [if_pos a2, if_pos (show n.val < 1888 by omega)]
    rw [if_neg a2, if_neg (show ¬ n.val < 1888 by omega)]
    by_cases a3 : r.val < 368
    · rw [dif_pos a3, dif_pos (show n.val < 1904 by omega)]
      by_cases a4 : r.val < 356
      · rw [if_pos a4, if_pos (show n.val < 1892 by omega), h0]
        exact congrArg (fun z => FloatOps.truncf .bf16 bitsLt_bf16_f32 (FloatOps.extf .f32 bitsLt_bf16_f32 z))
          (staged0 X t d0 _ k _ (by rw [if_pos e]; show n.val - 32 = t.val * 512 + (r.val - 32); omega))
      · rw [if_neg a4, if_neg (show ¬ n.val < 1892 by omega)]
    · rw [dif_neg a3, dif_neg (show ¬ n.val < 1904 by omega), if_pos (show n.val < 2048 by omega)]
  · have e : ¬ t.val ≤ 3 := by omega
    rw [if_neg (mt c2.mp g2), outRoll_at, dif_neg (show ¬ n.val < 1856 by omega), if_neg (show ¬ n.val < 1888 by omega),
      dif_neg (show ¬ n.val < 1904 by omega), if_neg (show ¬ n.val < 2048 by omega)]
    refine congrArg (fun z => FloatOps.truncf .bf16 bitsLt_bf16_f32 (FloatOps.extf .f32 bitsLt_bf16_f32 z)) ?_
    by_cases a1 : r.val < 188
    · rw [dif_pos a1, h0]
      exact staged0 X t d0 _ k _ (by rw [if_neg e]; show n.val - 188 = (t.val - 1) * 512 + (r.val + 324); omega)
    · rw [dif_neg a1, h1]
      exact staged1 X t d1 _ k _ (by rw [if_neg e]; show n.val - 188 = t.val * 512 + (r.val - 188); omega)

end Cert.Warr

end
-- ==== Proof.WArrRun.lean ====
module

public import proofs.«01_k».proof.Proof.WArrAt

@[expose] public section

set_option maxRecDepth 16384

noncomputable section

namespace Cert.Warr

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold -/

/-- Window 1's block at a point, filled out past the array's end with `d`. -/
def X1 (c : Dev nD) (t : Fin cfg0.N) (d : (cfg0.win 1).block.Idx → Elt F (cfg0.win 1).elt) : (cfg0.win 1).block.Idx → Elt F (cfg0.win 1).elt :=
  (cfg0.win 1).fill (cfg0.grid.coords t) d (iblk m c 1 t)

/-- A word for the part of window 1's buffer past the array's end, which nothing reads. -/
def dflt1 : (cfg0.win 1).block.Idx → Elt F (cfg0.win 1).elt := fun _ => zeroB

/-- The output block of a point. -/
def oblk (c : Dev nD) (t : Fin cfg0.N) : Vec F S512x1024 .bf16 := outAt (grid0.coords t) (X0_0 m c t) (X1 m c t dflt1)

/-- The arranged weight of the launch's arrays. -/
abbrev arrOf (c : Dev nD) : S5632x1024.Idx → Elt F .bf16 := arrA (V m c main_v1)

theorem outAt_rows (c : Dev nD) (t : Fin cfg0.N) (d) (r : Fin 512) (k : Fin 1024) (n : Fin 5632) (hn : n.val = t.val * 512 + r.val) :
    outAt (grid0.coords t) (X0_0 m c t) (X1 m c t d) (ix2 r k) = arrOf m c (ix2 n k) :=
  outAt_eq (V m c main_v1) t _ _ dflt0_0 d rfl rfl r k n hn

/-- What lies in the buffer past the array's end does not reach the output block. -/
theorem outAt_any (c : Dev nD) (t : Fin cfg0.N) (d) : outAt (grid0.coords t) (X0_0 m c t) (X1 m c t d) = oblk m c t := by
  obtain ⟨-, -, -, ht⟩ := idx t
  funext j
  obtain ⟨r, k, rfl⟩ : ∃ (r : Fin 512) (k : Fin 1024), j = ix2 r k :=
    ⟨j 0, j 1, funext fun i => by match i with | ⟨0, _⟩ => rfl | ⟨1, _⟩ => rfl⟩
  have hr := r.isLt
  exact (outAt_rows m c t d r k ⟨t.val * 512 + r.val, by omega⟩ rfl).trans (outAt_rows m c t dflt1 r k _ rfl).symm

/-- The proof data: the arrays as the launch finds them; after the body the inputs' buffers at their blocks and the
    output's at its rows. Two windows share one array, each with its share. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X1 m c t dflt1
    | ⟨2, _⟩ => oblk m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = X0_0 m c t := by dsimp only [dats]
theorem after1 (c : Dev nD) (t : Fin cfg0.N) : (dats m 0 c).after 1 t = X1 m c t dflt1 := by dsimp only [dats]
theorem after2 (c : Dev nD) (t : Fin cfg0.N) : (dats m 0 c).after 2 t = oblk m c t := by dsimp only [dats]

theorem before0 (c : Dev nD) (t : Fin cfg0.N) (d) : (dats m 0 c).before 0 t d = X0_0 m c t :=
  before0_0_of m (dats m 0 c) (A_eq m c 0) (after0 m c) t d
theorem cut1 (c : Dev nD) (t : Fin cfg0.N) : (cfg0.win 1).cut (cfg0.grid.coords t) (X1 m c t dflt1) = iblk m c 1 t :=
  (cfg0.win 1).cut_fill _ _ _
theorem cut0 (c : Dev nD) (t : Fin cfg0.N) : (cfg0.win 0).cut (cfg0.grid.coords t) (X0_0 m c t) = iblk m c 0 t :=
  (cfg0.win 0).cut_fill _ _ _
theorem before1 (c : Dev nD) (t : Fin cfg0.N) (d) : (dats m 0 c).before 1 t d = X1 m c t d :=
  ((dats m 0 c).before_in_eq_fetched 1 rfl (fun _ => rfl)
      (fun t t' h => funext fun a => congrArg (fun n => Pipeline.Clip.of n ((cfg0.win 1).size a) (S2x5444x1024.size a)) (congrFun h a))
      (fun t => by rw [after1, cut1]; unfold Dat.blockOf iblk; rw [A_eq]) t d).trans
    (by unfold Dat.fetched X1 Dat.blockOf iblk; rw [A_eq])

/-! ## The body obligation -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1]
  iapply (sound_kernel (F := F) c Set.univ (grid0.coords t) _ _ _ _ _ _ (X0_0 m c t) (X1 m c t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists dflt0_0
    change _ ⊢ owns (c : Thread nD τ) (st0_0 t) fullShare ((cfg0.win 0).fill (cfg0.grid.coords t) dflt0_0 ((cfg0.win 0).cut (cfg0.grid.coords t) (X0_0 m c t)))
    rw [cut0]
    exact BI.Entails.refl _
  isplitl [H1]
  · iexists d1
    change _ ⊢ owns (c : Thread nD τ) (st0_1 t) fullShare ((cfg0.win 1).fill (cfg0.grid.coords t) d1 ((cfg0.win 1).cut (cfg0.grid.coords t) (X1 m c t dflt1)))
    rw [cut1]
    exact BI.Entails.refl _
  · rw [outAt_any]
    rw [after2]
    cases idle0 2 (grid0.coords t)
    · iexact H2
    · simp only [show (win0 2).flush t = true from flush0_2 t]
      iexact H2

/-! ## The run -/

set_option backward.isDefEq.respectTransparency.types false in
set_option maxHeartbeats 800000 in
/-- Every execution ends, the arrays at what the proof data give and the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run_main m ρ)) ((θ_run defs _ _).mono (fun _ h => h.2) (run_quiescent m ρ))

/-- The result array after the run is the arranged weight. -/
theorem final (c : Dev nD) : (dats m 0 c).arrAt 2 (cfgs 0).N = arrOf m c := by
  refine (dats m 0 c).arrAt_eq_of_covers 2 _ (by decide +kernel) fun t _ y => ?_
  blk_simp
  rw [after2]
  idx_vars y
  obtain ⟨-, -, h2, ht⟩ := idx t
  refine (outAt_rows m c t dflt1 y0 y1 ⟨t.val * 512 + y0.val, by omega⟩ rfl).trans (congrArg (arrOf m c) ?_)
  blk_ext [h2]

end Cert.Warr

end
-- ==== Proof.WArrValue.lean ====
module

public import proofs.«01_k».proof.Proof.WArrRun
public import proofs.«01_k».proof.Proof.Gen.Reference3Ideal.Run
public import proofs.«01_k».proof.Proof.Gen.Kernel3.Frame
public import Idealize.ShloMosaic.Lib.Pipeline.ValueKit

@[expose] public section

set_option maxRecDepth 16384

noncomputable section

namespace Cert.Warr

open Idealize.ShloMosaic Idealize.ShloMosaic.TcCoe Idealize.SL.Sem

/-! ## The frame of the program as compiled: the same text -/

theorem defs₀_eq : (Cert.Kernel3.defs₀ (F := Bits)) = Cert.Kernel3Ideal.defs₀ (F := Bits) :=
  congrArg Defs.onTc (funext fun k => funext fun _ => by
    match k with
    | ⟨0, _⟩ => rfl)
theorem defs_eq : (Cert.Kernel3.defs (F := Bits)) = Cert.Kernel3Ideal.defs (F := Bits) :=
  congrArg (Pipeline.defs (Cert.Kernel3Ideal.pcfgs (F := Bits))) defs₀_eq

theorem frameBits (m : (ℓ : Loc Cert.Kernel3.nD Cert.Kernel3.τ Cert.Kernel3.sig) → Buf (Elt Bits) ℓ) (ρ : Dev Cert.Kernel3.nD → PrngReg) :
    θ_run (Cert.Kernel3.defs (F := Bits)) (onTc (τ := Cert.Kernel3.τ) (Cert.Kernel3.main (F := Bits))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0) := by
  rw [defs_eq]
  exact frame (F := Bits) m ρ

/-! ## The reference's result -/

section
open Cert.Reference3Ideal Cert.Reference3Ideal.Gen

/-- The layer's weight, one row per output. -/
abbrev refT (w : FVec Ideal S2x1024x5444 .f32) : FVec Ideal S5444x1024 .f32 :=
  transpose S5444x1024 [1, 0] (shapeCast _ (extractStridedSlice S1x1024x5444 ![1, 0, 0] w slices_S2x1024x5444_S1x1024x5444_1_0_0)
    shapeCasts_S1x1024x5444_S1024x5444) transposes_S1024x5444_S5444x1024_1_0

/-- The reference's result, as the reference composes it. -/
def refArr (w : FVec Ideal S2x1024x5444 .f32) : FVec Ideal S5632x1024 .bf16 :=
  truncf .bf16 (concatenate S5632x1024 0
    [⟨S512x1024, extractStridedSlice S512x1024 ![0, 0] (refT w) slices_S5444x1024_S512x1024_0_0⟩,
     ⟨S512x1024, extractStridedSlice S512x1024 ![512, 0] (refT w) slices_S5444x1024_S512x1024_512_0⟩,
     ⟨S512x1024, extractStridedSlice S512x1024 ![1024, 0] (refT w) slices_S5444x1024_S512x1024_1024_0⟩,
     ⟨S256x1024, extractStridedSlice S256x1024 ![1536, 0] (refT w) slices_S5444x1024_S256x1024_1536_0⟩,
     ⟨S64x1024, extractStridedSlice S64x1024 ![1792, 0] (refT w) slices_S5444x1024_S64x1024_1792_0⟩,
     ⟨S32x1024, broadcastInDim S32x1024 ![] bcast_S_S32x1024 (constant S_ .f32 0x00000000#32)⟩,
     ⟨S4x1024, extractStridedSlice S4x1024 ![1856, 0] (refT w) slices_S5444x1024_S4x1024_1856_0⟩,
     ⟨S156x1024, broadcastInDim S156x1024 ![] bcast_S_S156x1024 (constant S_ .f32 0x00000000#32)⟩,
     ⟨S3584x1024, extractStridedSlice S3584x1024 ![1860, 0] (refT w) slices_S5444x1024_S3584x1024_1860_0⟩]
    concatenates_S512x1024_S512x1024_S512x1024_S256x1024_S64x1024_S32x1024_S4x1024_S156x1024_S3584x1024_S5632x1024_d0) bitsLt_bf16_f32

/-- The reference's run, its result by name. -/
theorem ref_run (m : (ℓ : Loc nD τ sig) → Buf (Elt Ideal) ℓ) (g : Dev nD → PrngReg) :
    θ_run (Cert.Reference3Ideal.defs (F := Ideal)) (onTc (τ := τ) (Cert.Reference3Ideal.main (F := Ideal))) ⟨m, fun _ => 0, g⟩ fun r => ∀ c : Dev nD,
      r.2.mem ((c.tc : Thread nD τ).loc main_v13) = refArr (m ((c.tc : Thread nD τ).loc main_arg0))
      ∧ r.2.mem ((c.tc : Thread nD τ).loc main_arg0) = m ((c.tc : Thread nD τ).loc main_arg0) :=
  (θ_run _ _ _).mono (fun _ h => h) (Cert.Reference3Ideal.Value.run (F := Ideal) m g)

theorem refT_at (w : FVec Ideal S2x1024x5444 .f32) (n : Fin 5444) (k : Fin 1024) : refT w (ix2 n k) = w (ix3 1 k n) := by
  pointwise

theorem entry (w : FVec Ideal S2x1024x5444 .f32) (k : Fin 1024) (a b : Fin 5444) (h : a.val = b.val) : w (ix3 1 k a) = w (ix3 1 k b) := by
  rw [Fin.ext h]

theorem refArr_at (w : FVec Ideal S2x1024x5444 .f32) (n : Fin 5632) (k : Fin 1024) :
    refArr w (ix2 n k) = if h : n.val < 1856 then w (ix3 1 k ⟨n.val, by omega⟩)
      else if n.val < 1888 then Ideal.ofBits .f32 0x00000000#32
      else if h : n.val < 1892 then w (ix3 1 k ⟨n.val - 32, by omega⟩)
      else if n.val < 2048 then Ideal.ofBits .f32 0x00000000#32
      else w (ix3 1 k ⟨n.val - 188, by omega⟩) := by
  unfold refArr
  pointwise [refT_at]
  by_cases a0 : n.val < 512
  · rw [dif_pos a0, dif_pos (show n.val < 1856 by omega)]
  rw [dif_neg a0]
  by_cases a1 : n.val - 512 < 512
  · rw [dif_pos a1, dif_pos (show n.val < 1856 by omega)]
    exact entry w k _ _ (by dsimp only; omega)
  rw [dif_neg a1]
  by_cases a2 : n.val - 512 - 512 < 512
  · rw [dif_pos a2, dif_pos (show n.val < 1856 by omega)]
    exact entry w k _ _ (by dsimp only; omega)
  rw [dif_neg a2]
  by_cases a3 : n.val - 512 - 512 - 512 < 256
  · rw [dif_pos a3, dif_pos (show n.val < 1856 by omega)]
    exact entry w k _ _ (by dsimp only; omega)
  rw [dif_neg a3]
  by_cases a4 : n.val - 512 - 512 - 512 - 256 < 64
  · rw [dif_pos a4, dif_pos (show n.val < 1856 by omega)]
    exact entry w k _ _ (by dsimp only; omega)
  rw [dif_neg a4]
  by_cases a5 : n.val - 512 - 512 - 512 - 256 - 64 < 32
  · rw [dif_pos a5, dif_neg (show ¬ n.val < 1856 by omega), if_pos (show n.val < 1888 by omega)]
  rw [dif_neg a5]
  by_cases a6 : n.val - 512 - 512 - 512 - 256 - 64 - 32 < 4
  · rw [dif_pos a6, dif_neg (show ¬ n.val < 1856 by omega), if_neg (show ¬ n.val < 1888 by omega), dif_pos (show n.val < 1892 by omega)]
    exact entry w k _ _ (by dsimp only; omega)
  rw [dif_neg a6]
  by_cases a7 : n.val - 512 - 512 - 512 - 256 - 64 - 32 - 4 < 156
  · rw [dif_pos a7, dif_neg (show ¬ n.val < 1856 by omega), if_neg (show ¬ n.val < 1888 by omega), dif_neg (show ¬ n.val < 1892 by omega), if_pos (show n.val < 2048 by omega)]
  rw [dif_neg a7]
  rw [dif_neg (show ¬ n.val < 1856 by omega), if_neg (show ¬ n.val < 1888 by omega), dif_neg (show ¬ n.val < 1892 by omega), if_neg (show ¬ n.val < 2048 by omega)]
  exact entry w k _ _ (by dsimp only; omega)
end

/-! ## The two results -/

section
open Cert.Kernel3Ideal Cert.Kernel3Ideal.Gen

variable (m : (ℓ : Loc nD τ sig) → Buf (Elt Ideal) ℓ) (c : Dev nD)

/-- What the call reads: the weight with its last two axes exchanged. -/
theorem host_at (n : Fin 5444) (k : Fin 1024) :
    V m c main_v1 (ix3 1 n k) = (m ((c : Thread nD τ).loc main_arg0) : FVec Ideal S2x1024x5444 .f32) (ix3 1 k n) := by
  have e : V m c main_v1 = truncf (F := Ideal) .bf16 (transpose S2x5444x1024 [0, 2, 1] (m ((c : Thread nD τ).loc main_arg0) : FVec Ideal S2x1024x5444 .f32)
      transposes_S2x1024x5444_S2x5444x1024_0_2_1) bitsLt_bf16_f32 := by
    unfold V hostOps0
    after_results <;> rfl
  rw [e]
  pointwise

theorem arrRow_at (X : FVec Ideal S2x5444x1024 .bf16) (w : FVec Ideal S2x1024x5444 .f32) (h : ∀ n k, X (ix3 1 n k) = w (ix3 1 k n))
    (n : Fin 5632) (k : Fin 1024) : arrRow (F := Ideal) X n k = refArr w (ix2 n k) := by
  rw [refArr_at]
  unfold arrRow
  simp only [h]
  have z : (zeroB : Elt Ideal .bf16) = Ideal.ofBits .f32 0x00000000#32 := by pointwise
  by_cases a1 : n.val < 1856
  · rw [dif_pos a1, dif_pos a1]
  rw [dif_neg a1, dif_neg a1]
  by_cases a2 : n.val < 1888
  · rw [if_pos a2, if_pos a2]; exact z
  rw [if_neg a2, if_neg a2]
  by_cases a3 : n.val < 1892
  · rw [dif_pos a3, dif_pos (show n.val < 1904 by omega), if_pos a3]; rfl
  rw [dif_neg a3]
  by_cases a4 : n.val < 2048
  · rw [if_pos a4]
    by_cases a5 : n.val < 1904
    · rw [dif_pos a5, if_neg a3]; rfl
    · rw [dif_neg a5, if_pos a4]; exact z
  · rw [if_neg a4, dif_neg (show ¬ n.val < 1904 by omega), if_neg a4]; rfl

theorem arrOf_at (n : Fin 5632) (k : Fin 1024) :
    arrOf m c (ix2 n k) = refArr (m ((c : Thread nD τ).loc main_arg0)) (ix2 n k) :=
  arrRow_at _ _ (host_at m c) n k

theorem arrOf_eq : arrOf m c = refArr (m ((c : Thread nD τ).loc main_arg0)) := funext fun j => by
  obtain ⟨n, k, rfl⟩ : ∃ (n : Fin 5632) (k : Fin 1024), j = ix2 n k :=
    ⟨j 0, j 1, funext fun i => by match i with | ⟨0, _⟩ => rfl | ⟨1, _⟩ => rfl⟩
  exact arrOf_at m c n k

/-- The kernel's run, its result by name. -/
theorem kern_run (g : Dev nD → PrngReg) :
    θ_run (Cert.Kernel3Ideal.defs (F := Ideal)) (onTc (τ := τ) (Cert.Kernel3Ideal.main (F := Ideal))) ⟨m, fun _ => 0, g⟩ fun r => ∀ c : Dev nD,
      r.2.mem ((c.tc : Thread nD τ).loc main_v2) = refArr (m ((c.tc : Thread nD τ).loc main_arg0))
      ∧ r.2.mem ((c.tc : Thread nD τ).loc main_arg0) = m ((c.tc : Thread nD τ).loc main_arg0) := by
  refine (θ_run _ _ _).mono (fun r h c => ?_) (θ_run_and (run_main m g) (frame m g))
  exact ⟨((h.1 c).1 2).trans ((final m c).trans (arrOf_eq m c)), h.2.1 c⟩
end

end Cert.Warr

end
-- ==== Proof.FirstRef.lean ====
module

public import proofs.«01_k».proof.Proof.TailRef
public import proofs.«01_k».proof.Proof.Gen.Reference4Ideal.Run

@[expose] public section

/-! The reference of the layer's end in the first layer's form: the same row functions at the first layer's weights,
without the last normalisation. -/

set_option maxRecDepth 16384

noncomputable section

open Idealize.ShloMosaic Idealize.ShloMosaic.TcCoe Idealize.SL.Sem Idealize.ShloMosaic.Pipeline

namespace Cert.First

open Cert.Tail Cert.Reference4Ideal Cert.Reference4Ideal.Gen

/-- The whole reference over arrays. -/
def refRes (x : FVec Ideal S4x4096x1024 .f32) (a u : FVec Ideal S4x4096x512 .f32) (g : FVec Ideal S4x4096x2x1024 .f32)
    (wao wco : FVec Ideal S2x512x1024 .f32) (wmix : FVec Ideal S2x1024x1024 .f32) (gm : FVec Ideal S2x1024 .f32)
    (wup : FVec Ideal S2x1024x4096 .f32) (wdn : FVec Ideal S2x4096x1024 .f32) : FVec Ideal S16384x1024 .f32 :=
  shapeCast S16384x1024 (refFirst x a u g
      (shapeCast _ (extractStridedSlice S1x512x1024 ![0, 0, 0] wao slices_S2x512x1024_S1x512x1024_0_0_0)
        shapeCasts_S1x512x1024_S512x1024)
      (shapeCast _ (extractStridedSlice S1x512x1024 ![0, 0, 0] wco slices_S2x512x1024_S1x512x1024_0_0_0)
        shapeCasts_S1x512x1024_S512x1024)
      (shapeCast _ (extractStridedSlice S1x1024x1024 ![0, 0, 0] wmix slices_S2x1024x1024_S1x1024x1024_0_0_0)
        shapeCasts_S1x1024x1024_S1024x1024)
      (shapeCast _ (extractStridedSlice S1x1024 ![0, 0] gm slices_S2x1024_S1x1024_0_0) shapeCasts_S1x1024_S1024)
      (shapeCast _ (extractStridedSlice S1x1024x4096 ![0, 0, 0] wup slices_S2x1024x4096_S1x1024x4096_0_0_0)
        shapeCasts_S1x1024x4096_S1024x4096)
      (shapeCast _ (extractStridedSlice S1x4096x1024 ![0, 0, 0] wdn slices_S2x4096x1024_S1x4096x1024_0_0_0)
        shapeCasts_S1x4096x1024_S4096x1024))
    shapeCasts_S4x4096x1024_S16384x1024

theorem res_eq (m : (ℓ : Loc nD τ sig) → Buf (Elt Ideal) ℓ) (c : Dev nD) :
    Cert.Reference4Ideal.Value.res_out0 (F := Ideal) m c
      = refRes (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := rfl

theorem refRes_at (x : FVec Ideal S4x4096x1024 .f32) (a u : FVec Ideal S4x4096x512 .f32)
    (g : FVec Ideal S4x4096x2x1024 .f32) (wao wco : FVec Ideal S2x512x1024 .f32) (wmix : FVec Ideal S2x1024x1024 .f32)
    (gm : FVec Ideal S2x1024 .f32) (wup : FVec Ideal S2x1024x4096 .f32) (wdn : FVec Ideal S2x4096x1024 .f32)
    (i : Fin 16384) (d : Fin 1024) (b : Fin 4) (t : Fin 4096) (hb : b.val = i.val / 4096) (ht : t.val = i.val % 4096) :
    refRes x a u g wao wco wmix gm wup wdn (ix2 i d)
      = firstRow (fun k => x (ix3 b t k)) (fun j => a (ix3 b t j)) (fun j => u (ix3 b t j))
          (fun k => g (ix4 b t 0 k)) (fun k => g (ix4 b t 1 k)) (fun j k => wao (ix3 0 j k)) (fun j k => wco (ix3 0 j k))
          (fun j k => wmix (ix3 0 j k)) (fun k => gm (ix2 0 k)) (fun k h => wup (ix3 0 k h))
          (fun h k => wdn (ix3 0 h k)) d := by
  unfold refRes
  refine (cast_at _ i d b t hb ht).trans ((refFirst_at ..).trans ?_)
  congr 1
  all_goals
    funext j
    try funext k
    pointwise []

end Cert.First

end
-- ==== Proof.FirstValue.lean ====
module

public import proofs.«01_k».proof.Proof.TailValue
public import proofs.«01_k».proof.Proof.FirstRef
public import proofs.«01_k».proof.Proof.Gen.Kernel4Ideal.Value
public import Idealize.ShloMosaic.Lib.Pipeline.ValueKit

@[expose] public section

/-! The layer's end in the first layer's form: its body is that of the last layer up to the last normalisation, so the
values it computes are the other program's, and so are their rows. -/

set_option maxRecDepth 16384

noncomputable section

open Idealize.ShloMosaic Idealize.ShloMosaic.TcCoe Idealize.SL.Sem Idealize.ShloMosaic.Pipeline

namespace Cert.First

open Cert.Tail Cert.Kernel4Ideal Cert.Kernel4Ideal.Gen

theorem pay7_eq : k0_pay7 (F := Ideal) = Cert.KernelIdeal.Gen.k0_pay7 (F := Ideal) := rfl
theorem pay8_eq : k0_pay8 (F := Ideal) = Cert.KernelIdeal.Gen.k0_pay8 (F := Ideal) := rfl
theorem pay9_eq : k0_pay9 (F := Ideal) = Cert.KernelIdeal.Gen.k0_pay9 (F := Ideal) := rfl
theorem pay10_eq : k0_pay10 (F := Ideal) = Cert.KernelIdeal.Gen.k0_pay10 (F := Ideal) := rfl
theorem pay11_eq : k0_pay11 (F := Ideal) = Cert.KernelIdeal.Gen.k0_pay11 (F := Ideal) := rfl
theorem pay12_eq : k0_pay12 (F := Ideal) = Cert.KernelIdeal.Gen.k0_pay12 (F := Ideal) := rfl
theorem pay13_eq : k0_pay13 (F := Ideal) = Cert.KernelIdeal.Gen.k0_pay13 (F := Ideal) := rfl
theorem pay14_eq : k0_pay14 (F := Ideal) = Cert.KernelIdeal.Gen.k0_pay14 (F := Ideal) := rfl
theorem pay15_eq : k0_pay15 (F := Ideal) = Cert.KernelIdeal.Gen.k0_pay15 (F := Ideal) := rfl
theorem pay16_eq : k0_pay16 (F := Ideal) = Cert.KernelIdeal.Gen.k0_pay16 (F := Ideal) := rfl

theorem pay1_at (v85 : FVec Ideal S512x1024 .f32) (v94 : FVec Ideal S512x1024 .bf16)
    (v98 : FVec Ideal S1024x1024 .bf16) (r : Fin 512) (d : Fin 1024) :
    k0_pay1 (F := Ideal) v85 v94 v98 (constant S512x1024 .f32 0x00000000#32) (ix2 r d)
      = v85 (ix2 r d) + ∑ h : Fin 1024, v94 (ix2 r h) * v98 (ix2 h d) := by
  pointwise [k0_pay1]

/-- What one grid point leaves in the output block, row by row. -/
theorem out_at (x0 : FVec Ideal S512x1024 .f32) (x1 : FVec Ideal S1x512x512 .bf16) (x2 : FVec Ideal S512x512 .bf16)
    (x3 : FVec Ideal S512x2048 .bf16) (x4 x5 : FVec Ideal S1x512x1024 .bf16) (x6 : FVec Ideal S1x1024x1024 .bf16)
    (x7 : FVec Ideal S1x1024x4096 .bf16) (x8 : FVec Ideal S1x4096x1024 .bf16) (x9 x10 : FVec Ideal S1x1024 .f32)
    (r : Fin 512) (d : Fin 1024) :
    out0_11 (F := Ideal) x0 x1 x2 x3 x4 x5 x6 x7 x8 x9 x10 (ix2 r d)
      = firstRow (fun k => x0 (ix2 r k)) (fun j => x1 (ix3 0 j r)) (fun j => x2 (ix2 r j))
          (fun k => x3 (ix2 r ⟨k, by omega⟩)) (fun k => x3 (ix2 r ⟨1024 + k, by omega⟩))
          (fun j k => x4 (ix3 0 j k)) (fun j k => x5 (ix3 0 j k)) (fun j k => x6 (ix3 0 j k)) (fun k => x9 (ix2 0 k))
          (fun k h => x7 (ix3 0 k h)) (fun h k => x8 (ix3 0 h k)) d := by
  frame_out
  rw [pay1_at, pay7_eq, pay8_eq, pay9_eq, pay10_eq, pay11_eq, pay12_eq, pay13_eq, pay14_eq, pay15_eq, pay16_eq]
  refine chunks_at x0 x1 x2 x3 x4 x5 x6 x7 x8 x9 x10 _ _ _ _ _ _ _ _ ?_ ?_ ?_ ?_ ?_ ?_ ?_ ?_ r d
  all_goals
    intro k h
    pointwise []

/-- Where each window's block lies at a grid point. -/
theorem idx : ∀ t : Fin cfg0.N, win0_0.index t = ![t.val, 0] ∧ win0_1.index t = ![t.val / 8, 0, t.val % 8]
    ∧ win0_2.index t = ![t.val, 0] ∧ win0_3.index t = ![t.val, 0] ∧ win0_4.index t = ![0, 0, 0]
    ∧ win0_5.index t = ![0, 0, 0] ∧ win0_6.index t = ![0, 0, 0] ∧ win0_7.index t = ![0, 0, 0]
    ∧ win0_8.index t = ![0, 0, 0] ∧ win0_9.index t = ![0, 0] ∧ win0_11.index t = ![t.val, 0] ∧ t.val < 32 :=
  (by decide +kernel : ∀ t : Fin grid0.N, _)

variable (m : (ℓ : Loc nD τ sig) → Buf (Elt Ideal) ℓ)

/-- The reference at the kernel's argument arrays. -/
abbrev refOf (c : Dev nD) : FVec Ideal S16384x1024 .f32 :=
  refRes (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- A block's row is the reference's row at the token it stands for. -/
theorem point (c : Dev nD) (t : Fin cfg0.N) (r : Fin 512) (d : Fin 1024) (i : Fin 16384) (hi : i.val = t.val * 512 + r.val) :
    out0_11 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (ix2 r d)
      = refOf m c (ix2 i d) := by
  obtain ⟨h0, h1, h2, h3, h4, h5, h6, h7, h8, h9, h11, ht⟩ := idx t
  rw [out_at]
  refine Eq.trans ?_ (refRes_at _ _ _ _ _ _ _ _ _ _ i d ⟨t.val / 8, by omega⟩ ⟨t.val % 8 * 512 + r.val, by omega⟩
    (show t.val / 8 = i.val / 4096 by omega) (show t.val % 8 * 512 + r.val = i.val % 4096 by omega)).symm
  congr 1
  · funext k; blk_point [iblk, V, h0]
  · funext k; blk_point [iblk, V, h1]
  · funext k; blk_point [iblk, V, h2]
  · funext k; blk_point [iblk, V, h3]
  · funext k; blk_point [iblk, V, h3]
  · funext k j; blk_point [iblk, V, h4]
  · funext k j; blk_point [iblk, V, h5]
  · funext k j; blk_point [iblk, V, h6]
  · funext k; blk_point [iblk, V, h9]
  · funext k j; blk_point [iblk, V, h7]
  · funext k j; blk_point [iblk, V, h8]

/-- The result array after the run is the reference's. -/
theorem final (c : Dev nD) : (dats m 0 c).arrAt 11 (cfgs 0).N = refOf m c := by
  refine (dats m 0 c).arrAt_eq_of_covers 11 _ (by decide +kernel) fun t _ y => ?_
  blk_simp
  rw [after0_11]
  idx_vars y
  obtain ⟨-, -, -, -, -, -, -, -, -, -, h11, ht⟩ := idx t
  refine (point m c t y0 y1 ⟨t.val * 512 + y0.val, by omega⟩ rfl).trans (congrArg (refOf m c) ?_)
  blk_ext [h11]

end Cert.First

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.TailValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.ProjKern
public import proofs.«01_k».proof.Proof.ProjRun
public import proofs.«01_k».proof.Proof.Gen.Kernel3
public import proofs.«01_k».proof.Proof.Gen.Kernel3.Frame
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.WArrValue
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.FirstValue

@[expose] public section

noncomputable section

namespace Cert.Proof

open Idealize.ShloMosaic Idealize.ShloMosaic.TcCoe Idealize.SL.Sem

/-- The kernel's result over the reals is the reference's. -/
theorem algebraic [hKernelIdeal : Cert.KernelIdeal.Facts] [hReferenceIdeal : Cert.ReferenceIdeal.Facts] :
    Cert.algebraic_KernelIdeal_ReferenceIdeal := by
  pair_intro
  · run_from Cert.KernelIdeal.Gen.run_main m g
  · run_from Cert.ReferenceIdeal.Value.run m' g'
    refine Eq.trans ?_ (Cert.Tail.final m c).symm
    obtain ⟨h0, h1, h2, h3, h4, h5, h6, h7, h8, h9, h10⟩ := hagree c
    refine (Cert.Tail.res_eq m' c).trans ?_
    rw [h0, h1, h2, h3, h4, h5, h6, h7, h8, h9, h10]

/-- The projection's eight results over the reals are the reference's. -/
theorem algebraic2 [hKernel2Ideal : Cert.Kernel2Ideal.Facts] [hReference2Ideal : Cert.Reference2Ideal.Facts] :
    Cert.algebraic_Kernel2Ideal_Reference2Ideal := by
  pair_intro
  · run_from Cert.Proj.kern_run m g
  · have e : ∀ c, Cert.Proj.RP m' c = Cert.Proj.P m c := fun c => by
      obtain ⟨h0, h1, h2, -⟩ := hagree c
      unfold Cert.Proj.RP
      rw [h0, h1, h2]
    refine (θ_run _ _ _).mono (fun r h c => ?_) (Cert.Proj.ref_run m' g')
    obtain ⟨h0, h1, h2, h3, h4, h5, h6, h7, ha⟩ := h c
    exact ⟨h0.trans (congrArg Cert.Proj.refQ (e c)),
      h1.trans (congrArg Cert.Proj.refK (e c)),
      h2.trans (congrArg Cert.Proj.refV (e c)),
      h3.trans (congrArg Cert.Proj.refIq (e c)),
      h4.trans (congrArg Cert.Proj.refIkwB (e c)),
      h5.trans (congrArg Cert.Proj.refIkwT (e c)),
      h6.trans (congrArg₂ Cert.Proj.refUc (e c) (hagree c).2.2.2),
      h7.trans (congrArg Cert.Proj.refSg (e c)), ha⟩

/-- The arranged weight over the reals is the reference's. -/
theorem algebraic3 [hKernel3Ideal : Cert.Kernel3Ideal.Facts] [hReference3Ideal : Cert.Reference3Ideal.Facts] :
    Cert.algebraic_Kernel3Ideal_Reference3Ideal := by
  pair_intro
  · run_from Cert.Warr.kern_run m g
  · refine (θ_run _ _ _).mono (fun r h c => ?_) (Cert.Warr.ref_run m' g')
    obtain ⟨h0, ha⟩ := h c
    exact ⟨h0.trans (congrArg Cert.Warr.refArr (hagree c)), ha⟩

/-- The result of the layer's end in the first layer's form over the reals is the reference's. -/
theorem algebraic4 [hKernel4Ideal : Cert.Kernel4Ideal.Facts] [hReference4Ideal : Cert.Reference4Ideal.Facts] :
    Cert.algebraic_Kernel4Ideal_Reference4Ideal := by
  pair_intro
  · run_from Cert.Kernel4Ideal.Gen.run_main m g
  · run_from Cert.Reference4Ideal.Value.run m' g'
    refine Eq.trans ?_ (Cert.First.final m c).symm
    obtain ⟨h0, h1, h2, h3, h4, h5, h6, h7, h8, h9, -⟩ := hagree c
    refine (Cert.First.res_eq m' c).trans ?_
    rw [h0, h1, h2, h3, h4, h5, h6, h7, h8, h9]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ,
  fun m ρ _ => Cert.KernelIdeal.Gen.frame m ρ,
  fun m g _ => (θ_run Cert.ReferenceIdeal.defs _ _).mono
    (fun r h => ⟨fun c => (h c).2, sem_eq_zero_of_no_sems (by decide) r.2⟩) (Cert.ReferenceIdeal.Value.run m g),
  fun m ρ _ => Cert.Kernel2.Gen.frame m ρ,
  fun m ρ _ => Cert.Kernel2Ideal.Gen.frame m ρ,
  fun m g _ => (θ_run Cert.Reference2Ideal.defs _ _).mono
    (fun r h => ⟨fun c => (h c).2.2.2.2.2.2.2.2, sem_eq_zero_of_no_sems (by decide) r.2⟩) (Cert.Proj.ref_run m g),
  fun m ρ _ => Cert.Warr.frameBits m ρ,
  fun m ρ _ => Cert.Warr.frame m ρ,
  fun m g _ => (θ_run Cert.Reference3Ideal.defs _ _).mono
    (fun r h => ⟨fun c => (h c).2, sem_eq_zero_of_no_sems (by decide) r.2⟩) (Cert.Warr.ref_run m g),
  fun m ρ _ => Cert.Kernel4.Gen.frame m ρ,
  fun m ρ _ => Cert.Kernel4Ideal.Gen.frame m ρ,
  fun m g _ => (θ_run Cert.Reference4Ideal.defs _ _).mono
    (fun r h => ⟨fun c => (h c).2, sem_eq_zero_of_no_sems (by decide) r.2⟩) (Cert.Reference4Ideal.Value.run m g),
  trivial, algebraic, trivial, algebraic2, trivial, algebraic3, trivial, algebraic4⟩

end Cert.Proof

end
